-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_in_range : Cert.Pre_in_range.Facts) (hPre_regular : Cert.Pre_regular.Facts),
    quiescent_Kernel (hKernel := hKernel) (hPre_in_range := hPre_in_range)
    ∧ quiescent_KernelIdeal (hKernelIdeal := hKernelIdeal) (hPre_in_range := hPre_in_range)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_in_range.lean ====
abbrev S2x4096x128 : Shape := ⟨3, ![2, 4096, 128]⟩
abbrev S2x4096x32x16 : Shape := ⟨4, ![2, 4096, 32, 16]⟩
abbrev S2x4096x32 : Shape := ⟨3, ![2, 4096, 32]⟩
abbrev S2x4096 : Shape := ⟨2, ![2, 4096]⟩
abbrev S16x128 : Shape := ⟨2, ![16, 128]⟩
abbrev S128 : Shape := ⟨1, ![128]⟩
abbrev S128x128 : Shape := ⟨2, ![128, 128]⟩
abbrev S_ : Shape := ⟨0, ![]⟩

class Facts : Prop where
  bcast_S_S2x4096x32 : S_.BroadcastsInDim S2x4096x32 (![] : Fin 0 → Fin S2x4096x32.rank)
  reducesTo_S2x4096x32_S_d0_1_2 : S2x4096x32.ReducesTo [0, 1, 2] S_
  h_S_ : 0 < S_.numel

variable [Facts]

def fn {F : FTy → Type} [FloatOps F] (main_arg0 : FVec F S2x4096x128 .f32) (main_arg1 : FVec F S2x4096x32x16 .f32) (main_arg2 : IVec S2x4096x32 32) (main_arg3 : FVec F S2x4096 .f32) (main_arg4 : FVec F S16x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S_ 1 :=
  let main_c : IVec S_ 32 := constantI S_ 32 0#32
  let main_v0 : IVec S2x4096x32 32 := broadcastInDim S2x4096x32 ![] bcast_S_S2x4096x32 main_c
  let main_v1 : IVec S2x4096x32 1 := cmpi .sge main_arg2 main_v0
  let main_c_0 : IVec S_ 1 := constantI S_ 1 1#1
  let main_v2 : IVec S_ 1 := (fun x v => Host.reduce IntOp.andi x v reducesTo_S2x4096x32_S_d0_1_2 h_S_) main_v1 main_c_0
  let main_c_1 : IVec S_ 32 := constantI S_ 32 4096#32
  let main_v3 : IVec S2x4096x32 32 := broadcastInDim S2x4096x32 ![] bcast_S_S2x4096x32 main_c_1
  let main_v4 : IVec S2x4096x32 1 := cmpi .slt main_arg2 main_v3
  let main_c_2 : IVec S_ 1 := constantI S_ 1 1#1
  let main_v5 : IVec S_ 1 := (fun x v => Host.reduce IntOp.andi x v reducesTo_S2x4096x32_S_d0_1_2 h_S_) main_v4 main_c_2
  let main_v6 : IVec S_ 1 := andi main_v2 main_v5
  main_v6
-- ==== Pre_regular.lean ====
abbrev S2x4096x128 : Shape := ⟨3, ![2, 4096, 128]⟩
abbrev S2x4096x32x16 : Shape := ⟨4, ![2, 4096, 32, 16]⟩
abbrev S2x4096x32 : Shape := ⟨3, ![2, 4096, 32]⟩
abbrev S2x4096 : Shape := ⟨2, ![2, 4096]⟩
abbrev S16x128 : Shape := ⟨2, ![16, 128]⟩
abbrev S128 : Shape := ⟨1, ![128]⟩
abbrev S128x128 : Shape := ⟨2, ![128, 128]⟩
abbrev S_ : Shape := ⟨0, ![]⟩

class Facts : Prop where
  bcast_S_S2x4096x32 : S_.BroadcastsInDim S2x4096x32 (![] : Fin 0 → Fin S2x4096x32.rank)
  reducesTo_S2x4096x32_S_d0_1_2 : S2x4096x32.ReducesTo [0, 1, 2] S_
  h_S_ : 0 < S_.numel
  bcast_S_S2x4096 : S_.BroadcastsInDim S2x4096 (![] : Fin 0 → Fin S2x4096.rank)
  reducesTo_S2x4096_S_d0_1 : S2x4096.ReducesTo [0, 1] S_
  bcast_S_S2x4096x128 : S_.BroadcastsInDim S2x4096x128 (![] : Fin 0 → Fin S2x4096x128.rank)
  reducesTo_S2x4096x128_S_d0_1_2 : S2x4096x128.ReducesTo [0, 1, 2] S_
  bcast_S_S2x4096x32x16 : S_.BroadcastsInDim S2x4096x32x16 (![] : Fin 0 → Fin S2x4096x32x16.rank)
  reducesTo_S2x4096x32x16_S_d0_1_2_3 : S2x4096x32x16.ReducesTo [0, 1, 2, 3] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg10 : FVec F S128x128 .f32) (main_v45 : IVec S_ 1) (main_v49 : IVec S_ 1) : IVec S_ 1 :=
  let main_v50 : IVec S_ 1 := andi main_v45 main_v49
  let main_v51 : FVec F S128x128 .f32 := Host.absf main_arg10
  let main_cst_20 : FVec F S_ .f32 := constant S_ .f32 0x7F800000#32
  let main_v52 : FVec F S128x128 .f32 := broadcastInDim S128x128 ![] bcast_S_S128x128 main_cst_20
  let main_v53 : IVec S128x128 1 := cmpf .olt main_v51 main_v52
  let main_c_21 : IVec S_ 1 := constantI S_ 1 1#1
  let main_v54 : IVec S_ 1 := (fun x v => Host.reduce IntOp.andi x v reducesTo_S128x128_S_d0_1 h_S_) main_v53 main_c_21
  let main_v55 : IVec S_ 1 := andi main_v50 main_v54
  main_v55

def fn_part2 {F : FTy → Type} [FloatOps F] (main_arg7 : FVec F S128 .f32) (main_arg8 : FVec F S128x128 .f32) (main_arg9 : FVec F S128 .f32) (main_arg10 : FVec F S128x128 .f32) (main_v30 : IVec S_ 1) (main_v31 : FVec F S128x128 .f32) (main_v32 : FVec F S128x128 .f32) : IVec S_ 1 :=
  let main_v33 : IVec S128x128 1 := cmpf .olt main_v31 main_v32
  let main_c_13 : IVec S_ 1 := constantI S_ 1 1#1
  let main_v34 : IVec S_ 1 := (fun x v => Host.reduce IntOp.andi x v reducesTo_S128x128_S_d0_1 h_S_) main_v33 main_c_13
  let main_v35 : IVec S_ 1 := andi main_v30 main_v34
  let main_v36 : FVec F S128 .f32 := Host.absf main_arg7
  let main_cst_14 : FVec F S_ .f32 := constant S_ .f32 0x7F800000#32
  let main_v37 : FVec F S128 .f32 := broadcastInDim S128 ![] bcast_S_S128 main_cst_14
  let main_v38 : IVec S128 1 := cmpf .olt main_v36 main_v37
  let main_c_15 : IVec S_ 1 := constantI S_ 1 1#1
  let main_v39 : IVec S_ 1 := (fun x v => Host.reduce IntOp.andi x v reducesTo_S128_S_d0 h_S_) main_v38 main_c_15
  let main_v40 : IVec S_ 1 := andi main_v35 main_v39
  let main_v41 : FVec F S128x128 .f32 := Host.absf main_arg8
  let main_cst_16 : FVec F S_ .f32 := constant S_ .f32 0x7F800000#32
  let main_v42 : FVec F S128x128 .f32 := broadcastInDim S128x128 ![] bcast_S_S128x128 main_cst_16
  let main_v43 : IVec S128x128 1 := cmpf .olt main_v41 main_v42
  let main_c_17 : IVec S_ 1 := constantI S_ 1 1#1
  let main_v44 : IVec S_ 1 := (fun x v => Host.reduce IntOp.andi x v reducesTo_S128x128_S_d0_1 h_S_) main_v43 main_c_17
  let main_v45 : IVec S_ 1 := andi main_v40 main_v44
  let main_v46 : FVec F S128 .f32 := Host.absf main_arg9
  let main_cst_18 : FVec F S_ .f32 := constant S_ .f32 0x7F800000#32
  let main_v47 : FVec F S128 .f32 := broadcastInDim S128 ![] bcast_S_S128 main_cst_18
  let main_v48 : IVec S128 1 := cmpf .olt main_v46 main_v47
  let main_c_19 : IVec S_ 1 := constantI S_ 1 1#1
  let main_v49 : IVec S_ 1 := (fun x v => Host.reduce IntOp.andi x v reducesTo_S128_S_d0 h_S_) main_v48 main_c_19
  fn_part3 (F := F) main_arg10 main_v45 main_v49

def fn_part1 {F : FTy → Type} [FloatOps F] (main_arg1 : FVec F S2x4096x32x16 .f32) (main_arg4 : FVec F S16x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_v15 : IVec S_ 1) : IVec S_ 1 :=
  let main_v16 : FVec F S2x4096x32x16 .f32 := Host.absf main_arg1
  let main_cst_6 : FVec F S_ .f32 := constant S_ .f32 0x7F800000#32
  let main_v17 : FVec F S2x4096x32x16 .f32 := broadcastInDim S2x4096x32x16 ![] bcast_S_S2x4096x32x16 main_cst_6
  let main_v18 : IVec S2x4096x32x16 1 := cmpf .olt main_v16 main_v17
  let main_c_7 : IVec S_ 1 := constantI S_ 1 1#1
  let main_v19 : IVec S_ 1 := (fun x v => Host.reduce IntOp.andi x v reducesTo_S2x4096x32x16_S_d0_1_2_3 h_S_) main_v18 main_c_7
  let main_v20 : IVec S_ 1 := andi main_v15 main_v19
  let main_v21 : FVec F S16x128 .f32 := Host.absf main_arg4
  let main_cst_8 : FVec F S_ .f32 := constant S_ .f32 0x7F800000#32
  let main_v22 : FVec F S16x128 .f32 := broadcastInDim S16x128 ![] bcast_S_S16x128 main_cst_8
  let main_v23 : IVec S16x128 1 := cmpf .olt main_v21 main_v22
  let main_c_9 : IVec S_ 1 := constantI S_ 1 1#1
  let main_v24 : IVec S_ 1 := (fun x v => Host.reduce IntOp.andi x v reducesTo_S16x128_S_d0_1 h_S_) main_v23 main_c_9
  let main_v25 : IVec S_ 1 := andi main_v20 main_v24
  let main_v26 : FVec F S128 .f32 := Host.absf main_arg5
  let main_cst_10 : FVec F S_ .f32 := constant S_ .f32 0x7F800000#32
  let main_v27 : FVec F S128 .f32 := broadcastInDim S128 ![] bcast_S_S128 main_cst_10
  let main_v28 : IVec S128 1 := cmpf .olt main_v26 main_v27
  let main_c_11 : IVec S_ 1 := constantI S_ 1 1#1
  let main_v29 : IVec S_ 1 := (fun x v => Host.reduce IntOp.andi x v reducesTo_S128_S_d0 h_S_) main_v28 main_c_11
  let main_v30 : IVec S_ 1 := andi main_v25 main_v29
  let main_v31 : FVec F S128x128 .f32 := Host.absf main_arg6
  let main_cst_12 : FVec F S_ .f32 := constant S_ .f32 0x7F800000#32
  let main_v32 : FVec F S128x128 .f32 := broadcastInDim S128x128 ![] bcast_S_S128x128 main_cst_12
  fn_part2 (F := F) main_arg7 main_arg8 main_arg9 main_arg10 main_v30 main_v31 main_v32

def fn {F : FTy → Type} [FloatOps F] (main_arg0 : FVec F S2x4096x128 .f32) (main_arg1 : FVec F S2x4096x32x16 .f32) (main_arg2 : IVec S2x4096x32 32) (main_arg3 : FVec F S2x4096 .f32) (main_arg4 : FVec F S16x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S_ 1 :=
  let main_c : IVec S_ 32 := constantI S_ 32 0#32
  let main_v0 : IVec S2x4096x32 32 := broadcastInDim S2x4096x32 ![] bcast_S_S2x4096x32 main_c
  let main_v1 : IVec S2x4096x32 1 := cmpi .sge main_arg2 main_v0
  let main_c_0 : IVec S_ 1 := constantI S_ 1 1#1
  let main_v2 : IVec S_ 1 := (fun x v => Host.reduce IntOp.andi x v reducesTo_S2x4096x32_S_d0_1_2 h_S_) main_v1 main_c_0
  let main_c_1 : IVec S_ 32 := constantI S_ 32 4096#32
  let main_v3 : IVec S2x4096x32 32 := broadcastInDim S2x4096x32 ![] bcast_S_S2x4096x32 main_c_1
  let main_v4 : IVec S2x4096x32 1 := cmpi .slt main_arg2 main_v3
  let main_c_2 : IVec S_ 1 := constantI S_ 1 1#1
  let main_v5 : IVec S_ 1 := (fun x v => Host.reduce IntOp.andi x v reducesTo_S2x4096x32_S_d0_1_2 h_S_) main_v4 main_c_2
  let main_v6 : IVec S_ 1 := andi main_v2 main_v5
  let main_cst : FVec F S_ .f32 := constant S_ .f32 0x00000000#32
  let main_v7 : FVec F S2x4096 .f32 := broadcastInDim S2x4096 ![] bcast_S_S2x4096 main_cst
  let main_v8 : IVec S2x4096 1 := cmpf .une main_arg3 main_v7
  let main_c_3 : IVec S_ 1 := constantI S_ 1 1#1
  let main_v9 : IVec S_ 1 := (fun x v => Host.reduce IntOp.andi x v reducesTo_S2x4096_S_d0_1 h_S_) main_v8 main_c_3
  let main_v10 : IVec S_ 1 := andi main_v6 main_v9
  let main_v11 : FVec F S2x4096x128 .f32 := Host.absf main_arg0
  let main_cst_4 : FVec F S_ .f32 := constant S_ .f32 0x7F800000#32
  let main_v12 : FVec F S2x4096x128 .f32 := broadcastInDim S2x4096x128 ![] bcast_S_S2x4096x128 main_cst_4
  let main_v13 : IVec S2x4096x128 1 := cmpf .olt main_v11 main_v12
  let main_c_5 : IVec S_ 1 := constantI S_ 1 1#1
  let main_v14 : IVec S_ 1 := (fun x v => Host.reduce IntOp.andi x v reducesTo_S2x4096x128_S_d0_1_2 h_S_) main_v13 main_c_5
  let main_v15 : IVec S_ 1 := andi main_v10 main_v14
  fn_part1 (F := F) main_arg1 main_arg4 main_arg5 main_arg6 main_arg7 main_arg8 main_arg9 main_arg10 main_v15
-- ==== Kernel.lean ====
abbrev S2x4096x128 : Shape := ⟨3, ![2, 4096, 128]⟩
abbrev S2x4096x32x16 : Shape := ⟨4, ![2, 4096, 32, 16]⟩
abbrev S2x4096x32 : Shape := ⟨3, ![2, 4096, 32]⟩
abbrev S2x4096 : Shape := ⟨2, ![2, 4096]⟩
abbrev S16x128 : Shape := ⟨2, ![16, 128]⟩
abbrev S128 : Shape := ⟨1, ![128]⟩
abbrev S128x128 : Shape := ⟨2, ![128, 128]⟩
abbrev S8192x128 : Shape := ⟨2, ![8192, 128]⟩
abbrev S2 : Shape := ⟨1, ![2]⟩
abbrev S_ : Shape := ⟨0, ![]⟩
abbrev S2x1x1 : Shape := ⟨3, ![2, 1, 1]⟩
abbrev S262144 : Shape := ⟨1, ![262144]⟩
abbrev S262144x16 : Shape := ⟨2, ![262144, 16]⟩
abbrev S128x256 : Shape := ⟨2, ![128, 256]⟩
abbrev S16x256 : Shape := ⟨2, ![16, 256]⟩
abbrev S144x256 : Shape := ⟨2, ![144, 256]⟩
abbrev S1x128 : Shape := ⟨2, ![1, 128]⟩
abbrev S1x256 : Shape := ⟨2, ![1, 256]⟩
abbrev S256 : Shape := ⟨1, ![256]⟩
abbrev S262144x128 : Shape := ⟨2, ![262144, 128]⟩
abbrev S512 : Shape := ⟨1, ![512]⟩
abbrev S2x256x128 : Shape := ⟨3, ![2, 256, 128]⟩
abbrev S1 : Shape := ⟨1, ![1]⟩
abbrev S1x256x128 : Shape := ⟨3, ![1, 256, 128]⟩
abbrev S256x128 : Shape := ⟨2, ![256, 128]⟩
abbrev S16384x128 : Shape := ⟨2, ![16384, 128]⟩
abbrev S16384x16 : Shape := ⟨2, ![16384, 16]⟩
abbrev S512x128 : Shape := ⟨2, ![512, 128]⟩
abbrev S128x4 : Shape := ⟨2, ![128, 4]⟩
abbrev S16384x144 : Shape := ⟨2, ![16384, 144]⟩
abbrev S16384x256 : Shape := ⟨2, ![16384, 256]⟩
abbrev S512x32x128 : Shape := ⟨3, ![512, 32, 128]⟩
abbrev S512x1x128 : Shape := ⟨3, ![512, 1, 128]⟩
abbrev S16384x4 : Shape := ⟨2, ![16384, 4]⟩
abbrev S4x128 : Shape := ⟨2, ![4, 128]⟩
abbrev S512x32x4 : Shape := ⟨3, ![512, 32, 4]⟩
abbrev S512x4 : Shape := ⟨2, ![512, 4]⟩

abbrev nBuf : Table → Nat
  | .hbm => 46
  | .local .tc .vmem => 14
  | .local .scVector .vmem => 2
  | _ => 0

abbrev bufTy : (tb : Table) → Fin (nBuf tb) → BufTy
  | .hbm, ⟨0, _⟩ => ⟨S2x4096x128, .f32⟩
  | .hbm, ⟨1, _⟩ => ⟨S2x4096x32x16, .f32⟩
  | .hbm, ⟨2, _⟩ => ⟨S2x4096x32, .i32⟩
  | .hbm, ⟨3, _⟩ => ⟨S2x4096, .f32⟩
  | .hbm, ⟨4, _⟩ => ⟨S16x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S8192x128, .f32⟩
  | .hbm, ⟨15, _⟩ => ⟨S2, .i32⟩
  | .hbm, ⟨16, _⟩ => ⟨S_, .i32⟩
  | .hbm, ⟨17, _⟩ => ⟨S2, .i32⟩
  | .hbm, ⟨18, _⟩ => ⟨S2, .i32⟩
  | .hbm, ⟨19, _⟩ => ⟨S2x1x1, .i32⟩
  | .hbm, ⟨20, _⟩ => ⟨S2x4096x32, .i32⟩
  | .hbm, ⟨21, _⟩ => ⟨S2x4096x32, .i32⟩
  | .hbm, ⟨22, _⟩ => ⟨S262144, .i32⟩
  | .hbm, ⟨23, _⟩ => ⟨S262144x16, .f32⟩
  | .hbm, ⟨24, _⟩ => ⟨S128x256, .f32⟩
  | .hbm, ⟨25, _⟩ => ⟨S16x256, .f32⟩
  | .hbm, ⟨26, _⟩ => ⟨S144x256, .f32⟩
  | .hbm, ⟨27, _⟩ => ⟨S144x256, .bf16⟩
  | .hbm, ⟨28, _⟩ => ⟨S1x128, .f32⟩
  | .hbm, ⟨29, _⟩ => ⟨S1x256, .f32⟩
  | .hbm, ⟨30, _⟩ => ⟨S256, .f32⟩
  | .hbm, ⟨31, _⟩ => ⟨S1x256, .f32⟩
  | .hbm, ⟨32, _⟩ => ⟨S1x256, .f32⟩
  | .hbm, ⟨33, _⟩ => ⟨S_, .f32⟩
  | .hbm, ⟨34, _⟩ => ⟨S128x128, .f32⟩
  | .hbm, ⟨35, _⟩ => ⟨S128x128, .f32⟩
  | .hbm, ⟨36, _⟩ => ⟨S128x128, .bf16⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S1x128, .f32⟩
  | .hbm, ⟨41, _⟩ => ⟨S128x128, .bf16⟩
  | .hbm, ⟨42, _⟩ => ⟨S1x128, .f32⟩
  | .hbm, ⟨43, _⟩ => ⟨S262144x128, .f32⟩
  | .hbm, ⟨44, _⟩ => ⟨S8192x128, .f32⟩
  | .hbm, ⟨45, _⟩ => ⟨S2x4096x128, .f32⟩
  | .local .tc .vmem, ⟨0, _⟩ => ⟨S16384x128, .f32⟩
  | .local .tc .vmem, ⟨1, _⟩ => ⟨S16384x128, .f32⟩
  | .local .tc .vmem, ⟨2, _⟩ => ⟨S16384x16, .f32⟩
  | .local .tc .vmem, ⟨3, _⟩ => ⟨S16384x16, .f32⟩
  | .local .tc .vmem, ⟨4, _⟩ => ⟨S512x128, .f32⟩
  | .local .tc .vmem, ⟨5, _⟩ => ⟨S512x128, .f32⟩
  | .local .tc .vmem, ⟨6, _⟩ => ⟨S144x256, .bf16⟩
  | .local .tc .vmem, ⟨7, _⟩ => ⟨S1x256, .f32⟩
  | .local .tc .vmem, ⟨8, _⟩ => ⟨S128x128, .bf16⟩
  | .local .tc .vmem, ⟨9, _⟩ => ⟨S1x128, .f32⟩
  | .local .tc .vmem, ⟨10, _⟩ => ⟨S128x128, .bf16⟩
  | .local .tc .vmem, ⟨11, _⟩ => ⟨S1x128, .f32⟩
  | .local .tc .vmem, ⟨12, _⟩ => ⟨S512x128, .f32⟩
  | .local .tc .vmem, ⟨13, _⟩ => ⟨S512x128, .f32⟩
  | .local .scVector .vmem, ⟨0, _⟩ => ⟨S512, .i32⟩
  | .local .scVector .vmem, ⟨1, _⟩ => ⟨S2x256x128, .f32⟩
  | _, _ => ⟨S2x4096x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v0_scv : Ref sig .scVector := ⟨.hbm, 14, rfl⟩
abbrev main_v7_scv : Ref sig .scVector := ⟨.hbm, 22, rfl⟩
abbrev main_v26_scv : Ref sig .scVector := ⟨.hbm, 43, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg9_1 : Ref sig .tc := ⟨.vmem, 13, rfl⟩
abbrev cc0_scoped0 : Ref sig .scVector := ⟨.vmem, 0, rfl⟩
abbrev cc0_scoped2 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 1 → Nat :=
  let c0_i32_13_r0 : BitVec 32 := 0#32
  let c2_i32_r0 : BitVec 32 := 2#32
  let v21_r0 : BitVec 32 := Scalar.remui c0_i32_13_r0 c2_i32_r0
  let c256_i32_14_r0 : BitVec 32 := 256#32
  let v23_r0 : BitVec 32 := Scalar.muli v21_r0 c256_i32_14_r0
  let c0_i32_15_r0 : BitVec 32 := 0#32
  let v24_r0 : BitVec 32 := Scalar.addi v23_r0 c0_i32_15_r0
  ![v24_r0.toNat]
def k0_off2 (i : grid0.Coords) : Fin 1 → Nat :=
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v7_r0 : BitVec 32 := Scalar.addi c0_i32_1_r0 v4
  let v22_r0 : BitVec 32 := Scalar.muli c256_i32_r0 v7_r0
  ![v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_22_r0 : BitVec 32 := 0#32
  let c32_i32_23_r0 : BitVec 32 := 32#32
  let v32_r0 : BitVec 32 := Scalar.addi c0_i32_22_r0 c32_i32_23_r0
  let c1_i32_24_r0 : BitVec 32 := 1#32
  ⟨c0_i32_22_r0, v32_r0, c1_i32_24_r0⟩
def k0_off4 (arg6_r0 : BitVec 32) : Fin 1 → Nat :=
  let c2_i32_95_r0 : BitVec 32 := 2#32
  let v145_r0 : BitVec 32 := Scalar.remui arg6_r0 c2_i32_95_r0
  let c256_i32_97_r0 : BitVec 32 := 256#32
  let v147_r0 : BitVec 32 := Scalar.muli v145_r0 c256_i32_97_r0
  let c0_i32_98_r0 : BitVec 32 := 0#32
  let v148_r0 : BitVec 32 := Scalar.addi v147_r0 c0_i32_98_r0
  ![v148_r0.toNat]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v72_r0 : BitVec 32 := Scalar.addi arg10_r0 c1_i32_56_r0
  let v73_r0 : BitVec 32 := Scalar.select true_57_r0 v72_r0 arg10_r0
  let c32_i32_58_r0 : BitVec 32 := 32#32
  let v74_r0 : BitVec 1 := Scalar.cmpi .eq v73_r0 c32_i32_58_r0
  let c0_i32_59_r0 : BitVec 32 := 0#32
  let v75_r0 : BitVec 32 := Scalar.select v74_r0 c0_i32_59_r0 v73_r0
  let v76_r0 : BitVec 32 := Scalar.addi v75_r0 v4
  let v82_r0 : BitVec 1 := Scalar.cmpi .ne v66_r0 v76_r0
  let c0_i32_22_r0 : BitVec 32 := 0#32
  let c1_i32_24_r0 : BitVec 32 := 1#32
  let arg5_r0 : BitVec 32 := Scf.iv c0_i32_22_r0 c1_i32_24_r0 k0_t1
  let c31_i32_64_r0 : BitVec 32 := 31#32
  let v83_r0 : BitVec 1 := Scalar.cmpi .sge arg5_r0 c31_i32_64_r0
  let true_65_r0 : BitVec 1 := 1#1
  let v84_r0 : BitVec 1 := Scalar.xori v83_r0 true_65_r0
  let v85_r0 : BitVec 1 := Scalar.andi v82_r0 v84_r0
  let true_66_r0 : BitVec 1 := 1#1
  let v86_r0 : BitVec 1 := Scalar.andi v85_r0 true_66_r0
  let v87_r0 : BitVec 32 := Scalar.extui v86_r0
  let c0_i32_67_r0 : BitVec 32 := 0#32
  let v88_r0 : BitVec 1 := Scalar.cmpi .ne v87_r0 c0_i32_67_r0
  v88_r0

def k0_off5 (i : grid0.Coords) (arg10_r0 : BitVec 32) : Fin 1 → Nat :=
  let c256_i32_96_r0 : BitVec 32 := 256#32
  let true_57_r0 : BitVec 1 := 1#1
  let c1_i32_56_r0 : BitVec 32 := 1#32
  let v72_r0 : BitVec 32 := Scalar.addi arg10_r0 c1_i32_56_r0
  let v73_r0 : BitVec 32 := Scalar.select true_57_r0 v72_r0 arg10_r0
  let c32_i32_58_r0 : BitVec 32 := 32#32
  let v74_r0 : BitVec 1 := Scalar.cmpi .eq v73_r0 c32_i32_58_r0
  let c0_i32_59_r0 : BitVec 32 := 0#32
  let v75_r0 : BitVec 32 := Scalar.select v74_r0 c0_i32_59_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v76_r0 : BitVec 32 := Scalar.addi v75_r0 v4
  let v146_r0 : BitVec 32 := Scalar.muli c256_i32_96_r0 v76_r0
  ![v146_r0.toNat]
def k0_off6 (arg6_r0 : BitVec 32) : Fin 1 → Nat :=
  let c2_i32_95_r0 : BitVec 32 := 2#32
  let v145_r0 : BitVec 32 := Scalar.remui arg6_r0 c2_i32_95_r0
  ![v145_r0.toNat]
def k0_off7 (arg7_r0 : BitVec 32) : Fin 1 → Nat :=
  let c2_i32_96_r0 : BitVec 32 := 2#32
  let v146_r0 : BitVec 32 := Scalar.remui arg7_r0 c2_i32_96_r0
  let c256_i32_97_r0 : BitVec 32 := 256#32
  let v147_r0 : BitVec 32 := Scalar.muli v146_r0 c256_i32_97_r0
  let c0_i32_98_r0 : BitVec 32 := 0#32
  let v148_r0 : BitVec 32 := Scalar.addi v147_r0 c0_i32_98_r0
  ![v148_r0.toNat]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_53_r0 : BitVec 1 := 1#1
  let c1_i32_52_r0 : BitVec 32 := 1#32
  let v67_r0 : BitVec 32 := Scalar.subi arg10_r0 c1_i32_52_r0
  let v68_r0 : BitVec 32 := Scalar.select true_53_r0 v67_r0 arg10_r0
  let c_m1_i32_54_r0 : BitVec 32 := 4294967295#32
  let v69_r0 : BitVec 1 := Scalar.cmpi .eq v68_r0 c_m1_i32_54_r0
  let c31_i32_55_r0 : BitVec 32 := 31#32
  let v70_r0 : BitVec 32 := Scalar.select v69_r0 c31_i32_55_r0 v68_r0
  let v71_r0 : BitVec 32 := Scalar.addi v70_r0 v4
  let v96_r0 : BitVec 1 := Scalar.cmpi .ne v66_r0 v71_r0
  let c0_i32_22_r0 : BitVec 32 := 0#32
  let c1_i32_24_r0 : BitVec 32 := 1#32
  let arg5_r0 : BitVec 32 := Scf.iv c0_i32_22_r0 c1_i32_24_r0 k0_t1
  let c0_i32_50_r0 : BitVec 32 := 0#32
  let v64_r0 : BitVec 1 := Scalar.cmpi .eq arg5_r0 c0_i32_50_r0
  let v97_r0 : BitVec 1 := Scalar.ori v96_r0 v64_r0
  let c0_i32_72_r0 : BitVec 32 := 0#32
  let v98_r0 : BitVec 1 := Scalar.cmpi .sge arg5_r0 c0_i32_72_r0
  let v99_r0 : BitVec 1 := Scalar.andi v97_r0 v98_r0
  let v100_r0 : BitVec 32 := Scalar.extui v99_r0
  let c0_i32_73_r0 : BitVec 32 := 0#32
  let v101_r0 : BitVec 1 := Scalar.cmpi .ne v100_r0 c0_i32_73_r0
  v101_r0

def k0_off8 (i : grid0.Coords) (arg10_r0 : BitVec 32) : Fin 1 → Nat :=
  let c256_i32_95_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v145_r0 : BitVec 32 := Scalar.muli c256_i32_95_r0 v66_r0
  ![v145_r0.toNat]
def k0_off9 (arg7_r0 : BitVec 32) : Fin 1 → Nat :=
  let c2_i32_96_r0 : BitVec 32 := 2#32
  let v146_r0 : BitVec 32 := Scalar.remui arg7_r0 c2_i32_96_r0
  ![v146_r0.toNat]
def k0_off10 (arg8_r0 : BitVec 32) : Fin 3 → Nat :=
  let c2_i32_78_r0 : BitVec 32 := 2#32
  let v110_r0 : BitVec 32 := Scalar.remui arg8_r0 c2_i32_78_r0
  let c0_i32_95_r1 : BitVec 32 := 0#32
  let c0_i32_96_r1 : BitVec 32 := 0#32
  ![v110_r0.toNat, 0, 0]

def k0_chk2 (arg8_r0 : BitVec 32) : Prop :=
  (∀ a, (k0_off10 arg8_r0) a + S1x256x128.size a ≤ S2x256x128.size a)
theorem k0_off10_inb : ∀ (arg8_r0 : BitVec 32) (k0_hw2 : k0_chk2 arg8_r0), ∀ a, (k0_off10 arg8_r0) a + S1x256x128.size a ≤ S2x256x128.size a := fun arg8_r0 k0_hw2 => k0_hw2

def k0_off11 (arg7_r0 : BitVec 32) : Fin 1 → Nat :=
  let c2_i32_76_r0 : BitVec 32 := 2#32
  let v108_r0 : BitVec 32 := Scalar.remui arg7_r0 c2_i32_76_r0
  let c256_i32_77_r0 : BitVec 32 := 256#32
  let v109_r0 : BitVec 32 := Scalar.muli v108_r0 c256_i32_77_r0
  ![v109_r0.toNat]

def k0_chk3 (arg7_r0 : BitVec 32) : Prop :=
  (∀ a, (k0_off11 arg7_r0) a + S256.size a ≤ S512.size a)
theorem k0_off11_inb : ∀ (arg7_r0 : BitVec 32) (k0_hw3 : k0_chk3 arg7_r0), ∀ a, (k0_off11 arg7_r0) a + S256.size a ≤ S512.size a := fun arg7_r0 k0_hw3 => k0_hw3

def k0_off12 (arg8_r0 : BitVec 32) : Fin 3 → Nat :=
  let c2_i32_95_r0 : BitVec 32 := 2#32
  let v145_r0 : BitVec 32 := Scalar.remui arg8_r0 c2_i32_95_r0
  let c0_i32_97_r0 : BitVec 32 := 0#32
  let c0_i32_98_r0 : BitVec 32 := 0#32
  ![v145_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v72_r0 : BitVec 32 := Scalar.addi arg10_r0 c1_i32_56_r0
  let v73_r0 : BitVec 32 := Scalar.select true_57_r0 v72_r0 arg10_r0
  let c32_i32_58_r0 : BitVec 32 := 32#32
  let v74_r0 : BitVec 1 := Scalar.cmpi .eq v73_r0 c32_i32_58_r0
  let c0_i32_59_r0 : BitVec 32 := 0#32
  let v75_r0 : BitVec 32 := Scalar.select v74_r0 c0_i32_59_r0 v73_r0
  let v76_r0 : BitVec 32 := Scalar.addi v75_r0 v4
  let v116_r0 : BitVec 1 := Scalar.cmpi .ne v66_r0 v76_r0
  let c0_i32_22_r0 : BitVec 32 := 0#32
  let c1_i32_24_r0 : BitVec 32 := 1#32
  let arg5_r0 : BitVec 32 := Scf.iv c0_i32_22_r0 c1_i32_24_r0 k0_t1
  let c31_i32_51_r0 : BitVec 32 := 31#32
  let v65_r0 : BitVec 1 := Scalar.cmpi .eq arg5_r0 c31_i32_51_r0
  let v117_r0 : BitVec 1 := Scalar.ori v116_r0 v65_r0
  let v118_r0 : BitVec 32 := Scalar.extui v117_r0
  let c0_i32_80_r0 : BitVec 32 := 0#32
  let v119_r0 : BitVec 1 := Scalar.cmpi .ne v118_r0 c0_i32_80_r0
  v119_r0

def k0_off13 (i : grid0.Coords) (arg10_r0 : BitVec 32) : Fin 2 → Nat :=
  let c256_i32_96_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v146_r0 : BitVec 32 := Scalar.muli c256_i32_96_r0 v66_r0
  let c0_i32_99_r0 : BitVec 32 := 0#32
  ![v146_r0.toNat, 0]
def k0_off14 (arg8_r0 : BitVec 32) : Fin 1 → Nat :=
  let c2_i32_95_r0 : BitVec 32 := 2#32
  let v145_r0 : BitVec 32 := Scalar.remui arg8_r0 c2_i32_95_r0
  ![v145_r0.toNat]
def k0_off15 (arg9_r0 : BitVec 32) : Fin 3 → Nat :=
  let c2_i32_95_r0 : BitVec 32 := 2#32
  let v145_r0 : BitVec 32 := Scalar.remui arg9_r0 c2_i32_95_r0
  let c0_i32_97_r0 : BitVec 32 := 0#32
  let c0_i32_98_r0 : BitVec 32 := 0#32
  ![v145_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_53_r0 : BitVec 1 := 1#1
  let c1_i32_52_r0 : BitVec 32 := 1#32
  let v67_r0 : BitVec 32 := Scalar.subi arg10_r0 c1_i32_52_r0
  let v68_r0 : BitVec 32 := Scalar.select true_53_r0 v67_r0 arg10_r0
  let c_m1_i32_54_r0 : BitVec 32 := 4294967295#32
  let v69_r0 : BitVec 1 := Scalar.cmpi .eq v68_r0 c_m1_i32_54_r0
  let c31_i32_55_r0 : BitVec 32 := 31#32
  let v70_r0 : BitVec 32 := Scalar.select v69_r0 c31_i32_55_r0 v68_r0
  let v71_r0 : BitVec 32 := Scalar.addi v70_r0 v4
  let v129_r0 : BitVec 1 := Scalar.cmpi .ne v66_r0 v71_r0
  let c0_i32_22_r0 : BitVec 32 := 0#32
  let c1_i32_24_r0 : BitVec 32 := 1#32
  let arg5_r0 : BitVec 32 := Scf.iv c0_i32_22_r0 c1_i32_24_r0 k0_t1
  let c0_i32_50_r0 : BitVec 32 := 0#32
  let v64_r0 : BitVec 1 := Scalar.cmpi .eq arg5_r0 c0_i32_50_r0
  let true_86_r0 : BitVec 1 := 1#1
  let v130_r0 : BitVec 1 := Scalar.xori v64_r0 true_86_r0
  let v131_r0 : BitVec 1 := Scalar.andi v129_r0 v130_r0
  let v132_r0 : BitVec 32 := Scalar.extui v131_r0
  let c0_i32_87_r0 : BitVec 32 := 0#32
  let v133_r0 : BitVec 1 := Scalar.cmpi .ne v132_r0 c0_i32_87_r0
  v133_r0

def k0_off16 (i : grid0.Coords) (arg10_r0 : BitVec 32) : Fin 2 → Nat :=
  let c256_i32_96_r0 : BitVec 32 := 256#32
  let true_53_r0 : BitVec 1 := 1#1
  let c1_i32_52_r0 : BitVec 32 := 1#32
  let v67_r0 : BitVec 32 := Scalar.subi arg10_r0 c1_i32_52_r0
  let v68_r0 : BitVec 32 := Scalar.select true_53_r0 v67_r0 arg10_r0
  let c_m1_i32_54_r0 : BitVec 32 := 4294967295#32
  let v69_r0 : BitVec 1 := Scalar.cmpi .eq v68_r0 c_m1_i32_54_r0
  let c31_i32_55_r0 : BitVec 32 := 31#32
  let v70_r0 : BitVec 32 := Scalar.select v69_r0 c31_i32_55_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v71_r0 : BitVec 32 := Scalar.addi v70_r0 v4
  let v146_r0 : BitVec 32 := Scalar.muli c256_i32_96_r0 v71_r0
  let c0_i32_99_r0 : BitVec 32 := 0#32
  ![v146_r0.toNat, 0]
def k0_off17 (arg9_r0 : BitVec 32) : Fin 1 → Nat :=
  let c2_i32_95_r0 : BitVec 32 := 2#32
  let v145_r0 : BitVec 32 := Scalar.remui arg9_r0 c2_i32_95_r0
  ![v145_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S256.size a ≤ S512.size a) ∧
  (∀ (k0_h1 : k0_cond1 i k0_t1 arg10_r0 = 1#1), ∀ a, (k0_off5 i arg10_r0) a + S256.size a ≤ S262144.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S256.size a ≤ S512.size a) ∧
  (∀ (k0_h2 : k0_cond2 i k0_t1 arg10_r0 = 1#1), ∀ a, (k0_off8 i arg10_r0) a + S256.size a ≤ S262144.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x256x128.size a ≤ S2x256x128.size a) ∧
  (∀ (k0_h5 : k0_cond5 i k0_t1 arg10_r0 = 1#1), ∀ a, (k0_off13 i arg10_r0) a + S256x128.size a ≤ S262144x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x256x128.size a ≤ S2x256x128.size a) ∧
  (∀ (k0_h7 : k0_cond7 i k0_t1 arg10_r0 = 1#1), ∀ a, (k0_off16 i arg10_r0) a + S256x128.size a ≤ S262144x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S256.size a ≤ S512.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S256.size a ≤ S262144.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S256.size a ≤ S512.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S256.size a ≤ S262144.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x256x128.size a ≤ S2x256x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S256x128.size a ≤ S262144x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x256x128.size a ≤ S2x256x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S256x128.size a ≤ S262144x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_42_r0 : BitVec 32 := 2#32
  let v54_r0 : BitVec 32 := Scalar.remui v33_3_r0 c2_i32_42_r0
  let c0_i32_44_r0 : BitVec 32 := 0#32
  let c0_i32_45_r0 : BitVec 32 := 0#32
  ![v54_r0.toNat, 0, 0]

def k0_off19 (i : grid0.Coords) (v33_4_r0 : BitVec 32) : Fin 2 → Nat :=
  let c256_i32_43_r0 : BitVec 32 := 256#32
  let true_27_r0 : BitVec 1 := 1#1
  let c1_i32_26_r0 : BitVec 32 := 1#32
  let v34_r0 : BitVec 32 := Scalar.subi v33_4_r0 c1_i32_26_r0
  let v35_r0 : BitVec 32 := Scalar.select true_27_r0 v34_r0 v33_4_r0
  let c_m1_i32_28_r0 : BitVec 32 := 4294967295#32
  let v36_r0 : BitVec 1 := Scalar.cmpi .eq v35_r0 c_m1_i32_28_r0
  let c31_i32_29_r0 : BitVec 32 := 31#32
  let v37_r0 : BitVec 32 := Scalar.select v36_r0 c31_i32_29_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v38_r0 : BitVec 32 := Scalar.addi v37_r0 v4
  let v55_r0 : BitVec 32 := Scalar.muli c256_i32_43_r0 v38_r0
  let c0_i32_46_r0 : BitVec 32 := 0#32
  ![v55_r0.toNat, 0]

def k0_chk5 (i : grid0.Coords) (v33_4_r0 : BitVec 32) : Prop :=
  (∀ a, (k0_off19 i v33_4_r0) a + S256x128.size a ≤ S262144x128.size a)
theorem k0_off19_inb : ∀ (i : grid0.Coords) (v33_4_r0 : BitVec 32) (k0_hw5 : k0_chk5 i v33_4_r0), ∀ a, (k0_off19 i v33_4_r0) a + S256x128.size a ≤ S262144x128.size a := fun i v33_4_r0 k0_hw5 => k0_hw5

def k0_off20 (v33_3_r0 : BitVec 32) : Fin 1 → Nat :=
  let c2_i32_42_r0 : BitVec 32 := 2#32
  let v54_r0 : BitVec 32 := Scalar.remui v33_3_r0 c2_i32_42_r0
  ![v54_r0.toNat]
def k0_off21 (v33_3_r0 : BitVec 32) : Fin 3 → Nat :=
  let c2_i32_42_r0 : BitVec 32 := 2#32
  let v54_r0 : BitVec 32 := Scalar.remui v33_3_r0 c2_i32_42_r0
  let c0_i32_48_r0 : BitVec 32 := 0#32
  let c0_i32_49_r0 : BitVec 32 := 0#32
  ![v54_r0.toNat, 0, 0]

def k0_chk4 (v33_3_r0 : BitVec 32) : Prop :=
  (∀ a, (k0_off18 v33_3_r0) a + S1x256x128.size a ≤ S2x256x128.size a) ∧
  (∀ a, (k0_off20 v33_3_r0) a + S1.size a ≤ S2.size a) ∧
  (∀ a, (k0_off21 v33_3_r0) a + S1x256x128.size a ≤ S2x256x128.size a)
theorem k0_off18_inb : ∀ (v33_3_r0 : BitVec 32) (k0_hw4 : k0_chk4 v33_3_r0), ∀ a, (k0_off18 v33_3_r0) a + S1x256x128.size a ≤ S2x256x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x256x128.size a ≤ S2x256x128.size a := fun v33_3_r0 k0_hw4 => k0_hw4.2.2

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16384x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16384x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S144x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x4096x128 : Shape := ⟨3, ![2, 4096, 128]⟩
abbrev S2x4096x32x16 : Shape := ⟨4, ![2, 4096, 32, 16]⟩
abbrev S2x4096x32 : Shape := ⟨3, ![2, 4096, 32]⟩
abbrev S2x4096 : Shape := ⟨2, ![2, 4096]⟩
abbrev S16x128 : Shape := ⟨2, ![16, 128]⟩
abbrev S128 : Shape := ⟨1, ![128]⟩
abbrev S128x128 : Shape := ⟨2, ![128, 128]⟩
abbrev S2x4096x32x128 : Shape := ⟨4, ![2, 4096, 32, 128]⟩
abbrev S1x1x1x128 : Shape := ⟨4, ![1, 1, 1, 128]⟩
abbrev S2 : Shape := ⟨1, ![2]⟩
abbrev S2x1x1 : Shape := ⟨3, ![2, 1, 1]⟩
abbrev S_ : Shape := ⟨0, ![]⟩
abbrev S2x4096x32x1 : Shape := ⟨4, ![2, 4096, 32, 1]⟩
abbrev S2x4096x32x2 : Shape := ⟨4, ![2, 4096, 32, 2]⟩
abbrev S1x1x128 : Shape := ⟨3, ![1, 1, 128]⟩
abbrev S2x4096x4x32 : Shape := ⟨4, ![2, 4096, 4, 32]⟩
abbrev S2x4x4096x32 : Shape := ⟨4, ![2, 4, 4096, 32]⟩
abbrev S2x4096x32x4x32 : Shape := ⟨5, ![2, 4096, 32, 4, 32]⟩
abbrev S2x4x4096x32x32 : Shape := ⟨5, ![2, 4, 4096, 32, 32]⟩
abbrev S2x1x4096x1 : Shape := ⟨4, ![2, 1, 4096, 1]⟩
abbrev S2x32 : Shape := ⟨2, ![2, 32]⟩
abbrev S2x1x1x32 : Shape := ⟨4, ![2, 1, 1, 32]⟩
abbrev S2x1x4096x32 : Shape := ⟨4, ![2, 1, 4096, 32]⟩
abbrev S2x4x4096 : Shape := ⟨3, ![2, 4, 4096]⟩
abbrev S2x4x4096x1 : Shape := ⟨4, ![2, 4, 4096, 1]⟩

abbrev nBuf : Space → Nat
  | .hbm => 97
  | .vmem => 0
  | .smem => 0
  | _ => 0

abbrev bufTy : (tb : Table) → Fin (tcTables nBuf tb) → BufTy
  | .hbm, ⟨0, _⟩ => ⟨S2x4096x128, .f32⟩
  | .hbm, ⟨1, _⟩ => ⟨S2x4096x32x16, .f32⟩
  | .hbm, ⟨2, _⟩ => ⟨S2x4096x32, .i32⟩
  | .hbm, ⟨3, _⟩ => ⟨S2x4096, .f32⟩
  | .hbm, ⟨4, _⟩ => ⟨S16x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S2x4096x32x128, .f32⟩
  | .hbm, ⟨15, _⟩ => ⟨S1x1x1x128, .f32⟩
  | .hbm, ⟨16, _⟩ => ⟨S2x4096x32x128, .f32⟩
  | .hbm, ⟨17, _⟩ => ⟨S2x4096x32x128, .f32⟩
  | .hbm, ⟨18, _⟩ => ⟨S2, .i32⟩
  | .hbm, ⟨19, _⟩ => ⟨S2x1x1, .i32⟩
  | .hbm, ⟨20, _⟩ => ⟨S_, .i32⟩
  | .hbm, ⟨21, _⟩ => ⟨S2x1x1, .i32⟩
  | .hbm, ⟨22, _⟩ => ⟨S2x1x1, .i1⟩
  | .hbm, ⟨23, _⟩ => ⟨S_, .i32⟩
  | .hbm, ⟨24, _⟩ => ⟨S2x1x1, .i32⟩
  | .hbm, ⟨25, _⟩ => ⟨S2x1x1, .i32⟩
  | .hbm, ⟨26, _⟩ => ⟨S2x1x1, .i32⟩
  | .hbm, ⟨27, _⟩ => ⟨S_, .i32⟩
  | .hbm, ⟨28, _⟩ => ⟨S2x4096x32, .i32⟩
  | .hbm, ⟨29, _⟩ => ⟨S2x4096x32, .i1⟩
  | .hbm, ⟨30, _⟩ => ⟨S_, .i32⟩
  | .hbm, ⟨31, _⟩ => ⟨S2x4096x32, .i32⟩
  | .hbm, ⟨32, _⟩ => ⟨S2x4096x32, .i32⟩
  | .hbm, ⟨33, _⟩ => ⟨S2x4096x32, .i32⟩
  | .hbm, ⟨34, _⟩ => ⟨S2x4096x32, .i32⟩
  | .hbm, ⟨35, _⟩ => ⟨S2x4096x32x1, .i32⟩
  | .hbm, ⟨36, _⟩ => ⟨S2x4096x32x1, .i32⟩
  | .hbm, ⟨37, _⟩ => ⟨S2x4096x32x2, .i32⟩
  | .hbm, ⟨38, _⟩ => ⟨S2x4096x32x128, .f32⟩
  | .hbm, ⟨39, _⟩ => ⟨S2x4096x32x128, .f32⟩
  | .hbm, ⟨40, _⟩ => ⟨S2x4096x128, .f32⟩
  | .hbm, ⟨41, _⟩ => ⟨S1x1x128, .f32⟩
  | .hbm, ⟨42, _⟩ => ⟨S2x4096x128, .f32⟩
  | .hbm, ⟨43, _⟩ => ⟨S2x4096x128, .f32⟩
  | .hbm, ⟨44, _⟩ => ⟨S2x4096x4x32, .f32⟩
  | .hbm, ⟨45, _⟩ => ⟨S2x4x4096x32, .f32⟩
  | .hbm, ⟨46, _⟩ => ⟨S2x4096x32x128, .f32⟩
  | .hbm, ⟨47, _⟩ => ⟨S1x1x1x128, .f32⟩
  | .hbm, ⟨48, _⟩ => ⟨S2x4096x32x128, .f32⟩
  | .hbm, ⟨49, _⟩ => ⟨S2x4096x32x128, .f32⟩
  | .hbm, ⟨50, _⟩ => ⟨S2x4096x32x4x32, .f32⟩
  | .hbm, ⟨51, _⟩ => ⟨S2x4x4096x32x32, .f32⟩
  | .hbm, ⟨52, _⟩ => ⟨S2x4096x32x128, .f32⟩
  | .hbm, ⟨53, _⟩ => ⟨S1x1x1x128, .f32⟩
  | .hbm, ⟨54, _⟩ => ⟨S2x4096x32x128, .f32⟩
  | .hbm, ⟨55, _⟩ => ⟨S2x4096x32x128, .f32⟩
  | .hbm, ⟨56, _⟩ => ⟨S2x4096x32x4x32, .f32⟩
  | .hbm, ⟨57, _⟩ => ⟨S2x4x4096x32x32, .f32⟩
  | .hbm, ⟨58, _⟩ => ⟨S2x4x4096x32, .f32⟩
  | .hbm, ⟨59, _⟩ => ⟨S_, .f32⟩
  | .hbm, ⟨60, _⟩ => ⟨S2x4x4096x32, .f32⟩
  | .hbm, ⟨61, _⟩ => ⟨S2x4x4096x32, .f32⟩
  | .hbm, ⟨62, _⟩ => ⟨S2x1x4096x1, .f32⟩
  | .hbm, ⟨63, _⟩ => ⟨S2x32, .f32⟩
  | .hbm, ⟨64, _⟩ => ⟨S2x1x1x32, .f32⟩
  | .hbm, ⟨65, _⟩ => ⟨S2x1x4096x32, .f32⟩
  | .hbm, ⟨66, _⟩ => ⟨S2x1x4096x32, .f32⟩
  | .hbm, ⟨67, _⟩ => ⟨S2x1x4096x32, .f32⟩
  | .hbm, ⟨68, _⟩ => ⟨S_, .f32⟩
  | .hbm, ⟨69, _⟩ => ⟨S2x1x4096x32, .f32⟩
  | .hbm, ⟨70, _⟩ => ⟨S2x1x4096x32, .i1⟩
  | .hbm, ⟨71, _⟩ => ⟨S_, .f32⟩
  | .hbm, ⟨72, _⟩ => ⟨S_, .f32⟩
  | .hbm, ⟨73, _⟩ => ⟨S2x4x4096x32, .i1⟩
  | .hbm, ⟨74, _⟩ => ⟨S2x4x4096x32, .f32⟩
  | .hbm, ⟨75, _⟩ => ⟨S2x4x4096x32, .f32⟩
  | .hbm, ⟨76, _⟩ => ⟨S_, .f32⟩
  | .hbm, ⟨77, _⟩ => ⟨S2x4x4096, .f32⟩
  | .hbm, ⟨78, _⟩ => ⟨S_, .f32⟩
  | .hbm, ⟨79, _⟩ => ⟨S2x4x4096, .f32⟩
  | .hbm, ⟨80, _⟩ => ⟨S2x4x4096, .f32⟩
  | .hbm, ⟨81, _⟩ => ⟨S2x4x4096x1, .f32⟩
  | .hbm, ⟨82, _⟩ => ⟨S2x4x4096x32, .f32⟩
  | .hbm, ⟨83, _⟩ => ⟨S2x4x4096x32, .f32⟩
  | .hbm, ⟨84, _⟩ => ⟨S2x4x4096x32, .f32⟩
  | .hbm, ⟨85, _⟩ => ⟨S_, .f32⟩
  | .hbm, ⟨86, _⟩ => ⟨S2x4x4096, .f32⟩
  | .hbm, ⟨87, _⟩ => ⟨S2x4x4096x1, .f32⟩
  | .hbm, ⟨88, _⟩ => ⟨S2x4x4096x32, .f32⟩
  | .hbm, ⟨89, _⟩ => ⟨S2x4x4096x32, .f32⟩
  | .hbm, ⟨90, _⟩ => ⟨S2x4x4096x32, .f32⟩
  | .hbm, ⟨91, _⟩ => ⟨S2x4096x4x32, .f32⟩
  | .hbm, ⟨92, _⟩ => ⟨S2x4096x128, .f32⟩
  | .hbm, ⟨93, _⟩ => ⟨S2x4096x128, .f32⟩
  | .hbm, ⟨94, _⟩ => ⟨S1x1x128, .f32⟩
  | .hbm, ⟨95, _⟩ => ⟨S2x4096x128, .f32⟩
  | .hbm, ⟨96, _⟩ => ⟨S2x4096x128, .f32⟩
  | _, _ => ⟨S2x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_3 : Ref sig .tc := ⟨.hbm, 68, rfl⟩
abbrev main_v49 : Ref sig .tc := ⟨.hbm, 69, rfl⟩
abbrev main_v50 : Ref sig .tc := ⟨.hbm, 70, rfl⟩
abbrev main_cst_4 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_v51 : Ref sig .tc := ⟨.hbm, 75, rfl⟩
abbrev main_cst_5 : Ref sig .tc := ⟨.hbm, 76, rfl⟩
abbrev main_v52 : Ref sig .tc := ⟨.hbm, 77, rfl⟩
abbrev main_cst_6 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_7 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩

abbrev nD : Nat := 1
abbrev τ : Topo := Topo.v7x

variable {F : FTy → Type} [FloatOps F]
-- ==== Proof.Words.lean ====
/-
  The index arithmetic of the gather's double buffering. A tile runs 32 trips; at trip `t` it carries the words
  `carry t`: the next index block to fetch, the block to gather, the row slot to fill, the block to write back, and the
  position in the tile's grid. Every slot, semaphore and array offset the tile computes from them is given here in closed
  form, with the conditions that guard the trip's copies.
-/
module

public import proofs.«01_k».proof.Defs
public import proofs.«01_k».proof.Proof.Gen.KernelIdeal

@[expose] public section

noncomputable section

namespace Cert.Proof.Words

open Cert.KernelIdeal Cert.KernelIdeal.Gen
open Idealize.ShloMosaic

/-- A natural number as the 32-bit word the tile computes with. -/
abbrev W (n : Nat) : BitVec 32 := BitVec.ofNat 32 n

/-- The words carried into trip `t`. -/
def carry (t : Nat) : BitVec 32 × BitVec 32 × BitVec 32 × BitVec 32 × BitVec 32 :=
  (W (min (t + 1) 32), W t, W t, W (t - 1), W (t % 32))

theorem trips_eq : k0_t1_loop.trips = 32 := by decide +kernel

/-- The first block of the tile at grid position `i`. -/
def base (i : grid0.Coords) : Nat := 32 * (i 1).val + 512 * (i 0).val

theorem chk1 : ∀ (i : grid0.Coords) (t : Fin k0_t1_loop.trips),
    k0_chk1 i t (W (min (t.val + 1) 32)) (W t.val) (W t.val) (W (t.val - 1)) (W (t.val % 32)) := by decide +kernel
theorem chk2 : ∀ t : Fin k0_t1_loop.trips, k0_chk2 (W t.val) := by decide +kernel
theorem chk3 : ∀ t : Fin k0_t1_loop.trips, k0_chk3 (W t.val) := by decide +kernel
theorem chk4 : k0_chk4 (W 31) := by decide +kernel
theorem chk5 : ∀ i : grid0.Coords, k0_chk5 i (W 0) := by decide +kernel

theorem cond1 : ∀ (i : grid0.Coords) (t : Fin k0_t1_loop.trips), k0_cond1 i t (W (t.val % 32)) = 1#1 ↔ t.val < 31 := by decide +kernel
theorem cond2 : ∀ (i : grid0.Coords) (t : Fin k0_t1_loop.trips), k0_cond2 i t (W (t.val % 32)) = 1#1 := by decide +kernel
theorem cond5 : ∀ (i : grid0.Coords) (t : Fin k0_t1_loop.trips), k0_cond5 i t (W (t.val % 32)) = 1#1 := by decide +kernel
theorem cond7 : ∀ (i : grid0.Coords) (t : Fin k0_t1_loop.trips), k0_cond7 i t (W (t.val % 32)) = 1#1 ↔ 0 < t.val := by decide +kernel

theorem off2 : ∀ i : grid0.Coords, k0_off2 i = ![256 * base i] := by decide +kernel
theorem off4 : ∀ t : Fin k0_t1_loop.trips, t.val < 31 → k0_off4 (W (min (t.val + 1) 32)) = ![256 * ((t.val + 1) % 2)] := by decide +kernel
theorem off5 : ∀ (i : grid0.Coords) (t : Fin k0_t1_loop.trips), t.val < 31 → k0_off5 i (W (t.val % 32)) = ![256 * (base i + (t.val + 1))] := by decide +kernel
theorem off6 : ∀ t : Fin k0_t1_loop.trips, t.val < 31 → k0_off6 (W (min (t.val + 1) 32)) = ![(t.val + 1) % 2] := by decide +kernel
theorem off7 : ∀ t : Fin k0_t1_loop.trips, k0_off7 (W t.val) = ![256 * (t.val % 2)] := by decide +kernel
theorem off9 : ∀ t : Fin k0_t1_loop.trips, k0_off9 (W t.val) = ![t.val % 2] := by decide +kernel
theorem off10 : ∀ t : Fin k0_t1_loop.trips, k0_off10 (W t.val) = ![t.val % 2, 0, 0] := by decide +kernel
theorem off11 : ∀ t : Fin k0_t1_loop.trips, k0_off11 (W t.val) = ![256 * (t.val % 2)] := by decide +kernel
theorem off12 : ∀ t : Fin k0_t1_loop.trips, k0_off12 (W t.val) = ![t.val % 2, 0, 0] := by decide +kernel
theorem off13 : ∀ (i : grid0.Coords) (t : Fin k0_t1_loop.trips), k0_off13 i (W (t.val % 32)) = ![256 * (base i + t.val), 0] := by decide +kernel
theorem off14 : ∀ t : Fin k0_t1_loop.trips, k0_off14 (W t.val) = ![t.val % 2] := by decide +kernel
theorem off17 : ∀ t : Fin k0_t1_loop.trips, 0 < t.val → k0_off17 (W (t.val - 1)) = ![(t.val + 1) % 2] := by decide +kernel
theorem off20 : k0_off20 (W 31) = ![1] := by decide +kernel

/-- The tile's first block as the word the tile computes. -/
abbrev base32 (i : grid0.Coords) : BitVec 32 :=
  Scalar.muli (Scalar.addi (Scalar.addi 0#32 (Scalar.muli (BitVec.ofNat 32 (i 1).val) 1#32)) (Scalar.muli (BitVec.ofNat 32 (i 0).val) 16#32)) 32#32

/-- The previous and the next position in the tile's grid, round its ends. -/
abbrev prevPos (p : BitVec 32) : BitVec 32 :=
  Scalar.select (Scalar.cmpi .eq (Scalar.select 1#1 (Scalar.subi p 1#32) p) 4294967295#32) 31#32 (Scalar.select 1#1 (Scalar.subi p 1#32) p)
abbrev nextPos (p : BitVec 32) : BitVec 32 :=
  Scalar.select (Scalar.cmpi .eq (Scalar.select 1#1 (Scalar.addi p 1#32) p) 32#32) 0#32 (Scalar.select 1#1 (Scalar.addi p 1#32) p)

/-- The words carried out of a trip. -/
theorem next6 : ∀ (i : grid0.Coords) (t : Fin k0_t1_loop.trips),
    Scalar.select (Scalar.andi (Scalar.andi (Scalar.cmpi .ne (Scalar.addi (W (t.val % 32)) (base32 i)) (Scalar.addi (nextPos (W (t.val % 32))) (base32 i)))
        (Scalar.xori (Scalar.cmpi .sge (Scf.iv 0#32 1#32 t) 31#32) 1#1)) 1#1)
      (Scalar.addi (W (min (t.val + 1) 32)) 1#32) (W (min (t.val + 1) 32)) = W (min (t.val + 1 + 1) 32) := by decide +kernel
theorem next7 : ∀ (i : grid0.Coords) (t : Fin k0_t1_loop.trips),
    Scalar.select (Scalar.ori (Scalar.cmpi .ne (Scalar.addi (W (t.val % 32)) (base32 i)) (Scalar.addi (nextPos (W (t.val % 32))) (base32 i)))
        (Scalar.cmpi .eq (Scf.iv 0#32 1#32 t) 31#32)) (Scalar.addi (W t.val) 1#32) (W t.val) = W (t.val + 1) := by decide +kernel
theorem next8 : ∀ (i : grid0.Coords) (t : Fin k0_t1_loop.trips),
    Scalar.select (Scalar.andi (Scalar.ori (Scalar.cmpi .ne (Scalar.addi (W (t.val % 32)) (base32 i)) (Scalar.addi (nextPos (W (t.val % 32))) (base32 i)))
        (Scalar.cmpi .eq (Scf.iv 0#32 1#32 t) 31#32)) 1#1) (Scalar.addi (W t.val) 1#32) (W t.val) = W (t.val + 1) := by decide +kernel
theorem next9 : ∀ (i : grid0.Coords) (t : Fin k0_t1_loop.trips),
    Scalar.select (Scalar.andi (Scalar.andi (Scalar.cmpi .ne (Scalar.addi (W (t.val % 32)) (base32 i)) (Scalar.addi (prevPos (W (t.val % 32))) (base32 i)))
        (Scalar.xori (Scalar.cmpi .eq (Scf.iv 0#32 1#32 t) 0#32) 1#1)) 1#1) (Scalar.addi (W (t.val - 1)) 1#32) (W (t.val - 1)) = W (t.val + 1 - 1) := by decide +kernel
theorem next10 : ∀ t : Fin k0_t1_loop.trips, nextPos (W (t.val % 32)) = W ((t.val + 1) % 32) := by decide +kernel

end Cert.Proof.Words

end
-- ==== Proof.Setup.lean ====
/-
  The launch's set-up: the program as the launch theorem sees it, the ghost state, the buffers the SparseCore call
  moves, and the parts of them its tiles hold — each tile a read share of the table and of the index list, and its 8192
  rows of the gathered array; each of a tile's two index slots and two row slots.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueLayout
public import Idealize.ShloMosaic.Lib.Pointwise.Index
public import Idealize.ShloMosaic.Lib.Tactic
public import proofs.«01_k».proof.Proof.Gen.KernelIdeal
public import proofs.«01_k».proof.Proof.Gen.KernelIdeal.Skeleton
public import proofs.«01_k».proof.Proof.Words

@[expose] public section

noncomputable section

namespace Cert.Proof.Sc

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The buffers of the SparseCore call -/

abbrev xLoc (d : Dev nD) : Loc nD τ sig := (SparseCore.T d).loc main_v0
abbrev iLoc (d : Dev nD) : Loc nD τ sig := (SparseCore.T d).loc main_v7
abbrev oLoc (d : Dev nD) : Loc nD τ sig := (SparseCore.T d).loc main_v26

abbrev xV : Memref sig .scVector .hbm S8192x128 .f32 := Memref.whole main_v0_scv
abbrev iV : Memref sig .scVector .hbm S262144 .i32 := Memref.whole main_v7_scv
abbrev oV : Memref sig .scVector .hbm S262144x128 .f32 := Memref.whole main_v26_scv
abbrev sV : Memref sig .scVector .vmem S512 .i32 := Memref.whole cc0_scoped0
abbrev rV : Memref sig .scVector .vmem S2x256x128 .f32 := Memref.whole cc0_scoped2

/-- The slices the tile forms: a block of the index list, a block of the gathered array, an index slot, a row slot,
    and the table whole; each at an offset and the offset's bound. -/
abbrev iBlk (off : Fin 1 → Nat) (h : ∀ a, off a + S256.size a ≤ S262144.size a) : Memref sig .scVector .hbm S256 .i32 :=
  iV.slice (Rect.unit (s := S262144) off S256.size h) (fun _ => rfl)
abbrev oBlk (off : Fin 2 → Nat) (h : ∀ a, off a + S256x128.size a ≤ S262144x128.size a) : Memref sig .scVector .hbm S256x128 .f32 :=
  oV.slice (Rect.unit (s := S262144x128) off S256x128.size h) (fun _ => rfl)
abbrev sSlot (off : Fin 1 → Nat) (h : ∀ a, off a + S256.size a ≤ S512.size a) : Memref sig .scVector .vmem S256 .i32 :=
  sV.slice (Rect.unit (s := S512) off S256.size h) (fun _ => rfl)
abbrev rSlot (off : Fin 3 → Nat) (h : ∀ a, off a + S1x256x128.size a ≤ S2x256x128.size a) : Memref sig .scVector .vmem S256x128 .f32 :=
  (rV.slice (Rect.unit (s := S2x256x128) off S1x256x128.size h) (fun _ => rfl)).squeeze S256x128 squeezes_S1x256x128_S256x128
abbrev xAll : Memref sig .scVector .hbm S8192x128 .f32 :=
  xV.slice (Rect.unit (s := S8192x128) ![0, 0] S8192x128.size inb_S8192x128_S8192x128_0_0) (fun _ => rfl)
/-- The semaphore of a slot, out of a pair of them. -/
abbrev slotSem (v : DmaSems sig S2) (off : Fin 1 → Nat) (h : ∀ a, off a + S1.size a ≤ S2.size a) : DmaSem sig :=
  ((v.slice (Rect.unit (s := S2) off S1.size h)).squeeze S_ squeezes_S1_S_).sem

/-! ## Sets of elements -/

/-- Words `[a, b)` of the index list. -/
def iRange (a b : Nat) : Finset S262144.Idx := Finset.univ.filter fun x => a ≤ (x 0).val ∧ (x 0).val < b
/-- Rows `[a, b)` of the gathered array. -/
def oRange (a b : Nat) : Finset S262144x128.Idx := Finset.univ.filter fun x => a ≤ (x 0).val ∧ (x 0).val < b
/-- Index slot `p`. -/
def sHalf (p : Nat) : Finset S512.Idx := Finset.univ.filter fun x => 256 * p ≤ (x 0).val ∧ (x 0).val < 256 * p + 256
/-- Row slot `p`. -/
def rHalf (p : Nat) : Finset S2x256x128.Idx := Finset.univ.filter fun x => (x 0).val = p

theorem set_iBlk {off : Fin 1 → Nat} {h} (n : Nat) (e : off = ![256 * n]) : (iBlk off h).view.set = iRange (256 * n) (256 * n + 256) := by
  subst e
  show ((View.whole (main_v7_scv : Ref sig .scVector)).slice _).set = _
  rw [View.set_slice_whole]
  refine Finset.ext fun (x : S262144.Idx) => Rect.mem_set_unit.trans ?_
  simp only [iRange, Finset.mem_filter, Finset.mem_univ, true_and]
  exact ⟨fun h => h 0, fun h a => match a with | 0 => h⟩
theorem set_oBlk {off : Fin 2 → Nat} {h} (n : Nat) (e : off = ![256 * n, 0]) : (oBlk off h).view.set = oRange (256 * n) (256 * n + 256) := by
  subst e
  show ((View.whole (main_v26_scv : Ref sig .scVector)).slice _).set = _
  rw [View.set_slice_whole]
  refine Finset.ext fun (x : S262144x128.Idx) => Rect.mem_set_unit.trans ?_
  simp only [oRange, Finset.mem_filter, Finset.mem_univ, true_and]
  have h1 : 0 ≤ (x 1).val ∧ (x 1).val < 0 + 128 := ⟨Nat.zero_le _, by have := (x 1).isLt; rwa [Nat.zero_add]⟩
  exact ⟨fun h => h 0, fun h a => match a with | 0 => h | 1 => h1⟩
theorem set_sSlot {off : Fin 1 → Nat} {h} (p : Nat) (e : off = ![256 * p]) : (sSlot off h).view.set = sHalf p := by
  subst e
  show ((View.whole (cc0_scoped0 : Ref sig .scVector)).slice _).set = _
  rw [View.set_slice_whole]
  refine Finset.ext fun (x : S512.Idx) => Rect.mem_set_unit.trans ?_
  simp only [sHalf, Finset.mem_filter, Finset.mem_univ, true_and]
  exact ⟨fun h => h 0, fun h a => match a with | 0 => h⟩
theorem set_rSlot {off : Fin 3 → Nat} {h} (p : Nat) (e : off = ![p, 0, 0]) : (rSlot off h).view.set = rHalf p := by
  subst e
  show (((View.whole (cc0_scoped2 : Ref sig .scVector)).slice _).reshape S256x128 _).set = _
  rw [View.set_reshape, View.set_slice_whole]
  refine Finset.ext fun (x : S2x256x128.Idx) => Rect.mem_set_unit.trans ?_
  simp only [rHalf, Finset.mem_filter, Finset.mem_univ, true_and]
  have h1 : 0 ≤ (x 1).val ∧ (x 1).val < 0 + 256 := ⟨Nat.zero_le _, by have := (x 1).isLt; rwa [Nat.zero_add]⟩
  have h2 : 0 ≤ (x 2).val ∧ (x 2).val < 0 + 128 := ⟨Nat.zero_le _, by have := (x 2).isLt; rwa [Nat.zero_add]⟩
  refine ⟨fun h => ?_, fun h a => match a with | 0 => ?_ | 1 => h1 | 2 => h2⟩
  · have h0 : p ≤ (x 0).val ∧ (x 0).val < p + 1 := h 0
    omega
  · show p ≤ (x 0).val ∧ (x 0).val < p + 1
    omega
theorem set_xAll : xAll.view.set = Finset.univ := by
  show ((View.whole (main_v0_scv : Ref sig .scVector)).slice _).set = _
  rw [View.set_slice_whole]
  refine Finset.ext fun (x : S8192x128.Idx) => Rect.mem_set_unit.trans ?_
  have h0 : 0 ≤ (x 0).val ∧ (x 0).val < 0 + 8192 := ⟨Nat.zero_le _, by have := (x 0).isLt; rwa [Nat.zero_add]⟩
  have h1 : 0 ≤ (x 1).val ∧ (x 1).val < 0 + 128 := ⟨Nat.zero_le _, by have := (x 1).isLt; rwa [Nat.zero_add]⟩
  exact ⟨fun _ => Finset.mem_univ _, fun _ a => match a with | 0 => h0 | 1 => h1⟩

/-- Consecutive ranges join. -/
theorem oRange_union {a b c : Nat} (h : a ≤ b) (h' : b ≤ c) : oRange a b ∪ oRange b c = oRange a c := by
  ext x; simp only [oRange, Finset.mem_union, Finset.mem_filter, Finset.mem_univ, true_and, iff_true]; omega
theorem oRange_disjoint {a b c e : Nat} (h : b ≤ c) : Disjoint (oRange a b) (oRange c e) := by
  rw [Finset.disjoint_left]; intro x
  simp only [oRange, Finset.mem_filter, Finset.mem_univ, true_and, iff_true]; omega
theorem oRange_empty (a : Nat) : oRange a a = ∅ := by
  ext x; simp only [oRange, Finset.mem_filter, Finset.mem_univ, true_and, Finset.notMem_empty, iff_false]; omega
theorem oRange_all : oRange 0 262144 = Finset.univ := by
  ext x
  have : (x 0).val < 262144 := (x 0).isLt
  simp only [oRange, Finset.mem_filter, Finset.mem_univ, true_and, iff_true]; omega
theorem sHalf_union : sHalf 0 ∪ sHalf 1 = Finset.univ := by
  ext x
  have : (x 0).val < 512 := (x 0).isLt
  simp only [sHalf, Finset.mem_union, Finset.mem_filter, Finset.mem_univ, true_and, iff_true]; omega
theorem sHalf_disjoint : Disjoint (sHalf 0) (sHalf 1) := by
  rw [Finset.disjoint_left]; intro x
  simp only [sHalf, Finset.mem_filter, Finset.mem_univ, true_and, iff_true]; omega
theorem rHalf_union : rHalf 0 ∪ rHalf 1 = Finset.univ := by
  ext x
  have : (x 0).val < 2 := (x 0).isLt
  simp only [rHalf, Finset.mem_union, Finset.mem_filter, Finset.mem_univ, true_and, iff_true]; omega
theorem rHalf_disjoint : Disjoint (rHalf 0) (rHalf 1) := by
  rw [Finset.disjoint_left]; intro x
  simp only [rHalf, Finset.mem_filter, Finset.mem_univ, true_and, iff_true]; omega

/-! ## What the slots and the gathered array come to hold -/

/-- The gathered array: row `r` is the table's row that word `r` of the index list names. -/
def gath (X : S8192x128.Idx → Elt F .f32) (I : S262144.Idx → Elt F .i32) : S262144x128.Idx → Elt F .f32 := fun x =>
  X (ix2 (⟨(I (ix1 (x 0))).toNat % 8192, Nat.mod_lt _ (by omega)⟩ : Fin 8192) (x 1))
/-- An index slot holding block `n` of the index list. -/
def slotIdx (I : S262144.Idx → Elt F .i32) (n : Nat) : S512.Idx → Elt F .i32 := fun x =>
  I (ix1 (⟨(256 * n + (x 0).val % 256) % 262144, Nat.mod_lt _ (by omega)⟩ : Fin 262144))
/-- A row slot holding block `n` of the gathered array. -/
def slotRows (X : S8192x128.Idx → Elt F .f32) (I : S262144.Idx → Elt F .i32) (n : Nat) : S2x256x128.Idx → Elt F .f32 := fun x =>
  gath X I (ix2 (⟨(256 * n + (x 1).val) % 262144, Nat.mod_lt _ (by omega)⟩ : Fin 262144) (x 2))

end Cert.Proof.Sc

end
-- ==== Proof.SlotValues.lean ====
/-
  What each of a tile's copies leaves: a block of the index list in an index slot, the rows that block names in a row
  slot, and those rows in their place in the gathered array.
-/
module

public import proofs.«01_k».proof.Proof.Setup

@[expose] public section

noncomputable section

namespace Cert.Proof.Sc

open Cert.KernelIdeal Cert.KernelIdeal.Gen Cert.Proof.Words
open Idealize.ShloMosaic

variable {F : FTy → Type}

/-- A fetched index slot holds its block of the index list. -/
theorem write_sSlot {off off' : Fin 1 → Nat} {h h'} {p n : Nat} (e : off = ![256 * p]) (e' : off' = ![256 * n]) (hn : n < 1024)
    (fd : S512.Idx → Elt F .i32) (I : S262144.Idx → Elt F .i32) :
    ∀ x ∈ sHalf p, (sSlot off h).view.write (Elt F) fd ((iBlk off' h').view.read (Elt F) I) Finset.univ x = slotIdx I n x := by
  intro x hx
  rw [← set_sSlot (h := h) p e] at hx
  obtain ⟨y, -, rfl⟩ := Finset.mem_map.mp hx
  rw [View.write_emb_of_mem _ _ (Finset.mem_univ y), View.read_apply]
  subst e e'
  show I _ = I _
  congr 1
  refine (eq_ix1 _).trans (congrArg ix1 (Fin.ext ?_))
  have hy : (y 0).val < 256 := (y 0).isLt
  show 256 * n + 1 * (y 0).val = (256 * n + (256 * p + 1 * (y 0).val) % 256) % 262144
  omega

/-- Where a row slot's element sits in the pair of row slots. -/
theorem emb_rSlot {p : Nat} (h) (a : Fin 256) (b : Fin 128) : (rSlot ![p, 0, 0] h).view.emb (ix2 a b)
    = (ix3 ⟨p, by have := h 0; change p + 1 ≤ 2 at this; omega⟩ a b : S2x256x128.Idx) := by
  show (Rect.unit (s := S2x256x128) ![p, 0, 0] S1x256x128.size h).idx (Shape.reshapeEquiv _ (ix2 a b)) = _
  rw [show Shape.reshapeEquiv _ (ix2 a b) = (ix3 (0 : Fin 1) a b : S1x256x128.Idx) from Shape.reshapeEquiv_eq_of_rowMajor _ (by
    rw [Shape.rowMajor_val_three, Shape.rowMajor_val_two]
    show (0 * 256 + a.val) * 128 + b.val = a.val * 128 + b.val
    omega)]
  refine (eq_ix3 _).trans ?_
  congr 1 <;> refine Fin.ext ?_
  · show 0 + 1 * a.val = a.val; omega
  · show 0 + 1 * b.val = b.val; omega

/-- A filled row slot holds the rows its index slot's block names. -/
theorem write_rSlot {off : Fin 3 → Nat} {off' : Fin 1 → Nat} {h h'} {p n : Nat} (e : off = ![p, 0, 0]) (e' : off' = ![256 * p]) (hn : n < 1024)
    (fd : S2x256x128.Idx → Elt F .f32) (X : S8192x128.Idx → Elt F .f32) (I : S262144.Idx → Elt F .i32) (hlt : ∀ x, (I x).toNat < 8192)
    (hin : ∀ x, ((sSlot off' h').view.read (Elt F) (slotIdx I n) x).toNat < S8192x128.size gathers_S8192x128_S256x128.axis) :
    ∀ x ∈ rHalf p, (rSlot off h).view.write (Elt F) fd
      (SparseCore.gatherPayload gathers_S8192x128_S256x128 (xAll.view.read (Elt F) X)
        (SparseCore.rows ((sSlot off' h').view.read (Elt F) (slotIdx I n)) rfl hin)) Finset.univ x = slotRows X I n x := by
  intro x hx
  rw [← set_rSlot (h := h) p e] at hx
  obtain ⟨y, -, rfl⟩ := Finset.mem_map.mp hx
  rw [View.write_emb_of_mem _ _ (Finset.mem_univ y)]
  obtain ⟨a, b, rfl⟩ : ∃ a b, y = ix2 a b := ⟨y 0, y 1, eq_ix2 y⟩
  subst e e'
  rw [emb_rSlot]
  have ha : a.val < 256 := a.isLt
  have hp : p < 2 := by have := h 0; change p + 1 ≤ 2 at this; omega
  have hrow : (SparseCore.rows ((sSlot ![256 * p] h').view.read (Elt F) (slotIdx I n)) (o := 256) rfl hin a).val
      = (I (ix1 (⟨(256 * n + a.val) % 262144, Nat.mod_lt _ (by omega)⟩ : Fin 262144))).toNat := by
    show (slotIdx I n ((sSlot ![256 * p] h').view.emb (S256.rowMajor.symm (Fin.cast _ a)))).toNat = _
    have hk : ((S256.rowMajor.symm (Fin.cast rfl a)) 0).val = a.val := by
      rw [← Shape.rowMajor_val_one (S256.rowMajor.symm (Fin.cast rfl a))]
      exact congrArg Fin.val (S256.rowMajor.apply_symm_apply (Fin.cast rfl a))
    show (I (ix1 ⟨(256 * n + (256 * p + 1 * ((S256.rowMajor.symm (Fin.cast _ a)) 0).val) % 256) % 262144, _⟩)).toNat = _
    congr 3
    refine Fin.ext ?_
    show (256 * n + (256 * p + 1 * ((S256.rowMajor.symm (Fin.cast rfl a)) 0).val) % 256) % 262144 = (256 * n + a.val) % 262144
    rw [hk]; omega
  show X _ = X _
  congr 1
  refine (eq_ix2 _).trans ?_
  congr 1 <;> refine Fin.ext ?_
  · show 0 + 1 * (Shape.Gathers.idx gathers_S8192x128_S256x128 _ (ix2 a b) 0).val = _
    rw [show Shape.Gathers.idx gathers_S8192x128_S256x128 _ (ix2 a b) (0 : Fin 2) = _ from Shape.Gathers.idx_axis gathers_S8192x128_S256x128 _ (ix2 a b)]
    refine ((Nat.zero_add _).trans (Nat.one_mul _)).trans (hrow.trans ?_)
    exact (Nat.mod_eq_of_lt (hlt _)).symm
  · show 0 + 1 * (Shape.Gathers.idx gathers_S8192x128_S256x128 _ (ix2 a b) 1).val = b.val
    rw [Shape.Gathers.idx_of_ne gathers_S8192x128_S256x128 _ (ix2 a b) (1 : Fin 2) (by decide)]
    exact (Nat.zero_add _).trans (Nat.one_mul _)

/-- A block written back holds its rows of the gathered array. -/
theorem write_oBlk {off : Fin 2 → Nat} {off' : Fin 3 → Nat} {h h'} {p n : Nat} (e : off = ![256 * n, 0]) (e' : off' = ![p, 0, 0]) (hn : n < 1024)
    (fd : S262144x128.Idx → Elt F .f32) (X : S8192x128.Idx → Elt F .f32) (I : S262144.Idx → Elt F .i32) :
    ∀ x ∈ oRange (256 * n) (256 * n + 256), (oBlk off h).view.write (Elt F) fd ((rSlot off' h').view.read (Elt F) (slotRows X I n)) Finset.univ x
      = gath X I x := by
  intro x hx
  rw [← set_oBlk (h := h) n e] at hx
  obtain ⟨y, -, rfl⟩ := Finset.mem_map.mp hx
  rw [View.write_emb_of_mem _ _ (Finset.mem_univ y), View.read_apply]
  obtain ⟨a, b, rfl⟩ : ∃ a b, y = ix2 a b := ⟨y 0, y 1, eq_ix2 y⟩
  subst e e'
  rw [emb_rSlot]
  show gath X I _ = gath X I _
  congr 1
  refine Eq.trans ?_ (eq_ix2 _).symm
  have ha : a.val < 256 := a.isLt
  congr 1 <;> refine Fin.ext ?_
  · show (256 * n + a.val) % 262144 = 256 * n + 1 * a.val; omega
  · show b.val = 0 + 1 * b.val; omega

end Cert.Proof.Sc

end
-- ==== Proof.Steps.lean ====
/-
  The copies of one tile, one lemma each: the fetch of a block of the index list into a slot and its wait, the copy of
  a block of gathered rows to their place and its wait. What a copy leaves is stated as a function of the whole list or
  of the whole gathered array.
-/
module

public import proofs.«01_k».proof.Proof.SlotValues

@[expose] public section

noncomputable section

namespace Cert.Proof.Sc

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev cV (L : grid0.Coords) : Fin τ.nSC := (L 0).castLE hcore0
abbrev jV (L : grid0.Coords) : Fin τ.nSub := (L 1).castLE hsub0
/-- The thread of the tile at grid position `L` of device `d`. -/
abbrev tile (d : Dev nD) (L : grid0.Coords) : Thread nD τ := V d (cV L) (jV L)

/-- The semaphores of trip `n`'s index slot and row slot. -/
abbrev iSem (n : Nat) : DmaSem sig := slotSem cc0_scoped1 ![n % 2] (fun a => match a with | 0 => Nat.mod_lt n (by omega : 2 > 0))
abbrev oSem (n : Nat) : DmaSem sig := slotSem cc0_scoped3 ![n % 2] (fun a => match a with | 0 => Nat.mod_lt n (by omega : 2 > 0))

theorem iSem_eq {off : Fin 1 → Nat} {h} (n : Nat) (e : off = ![n % 2]) : slotSem cc0_scoped1 off h = iSem n := by subst e; rfl
theorem oSem_eq {off : Fin 1 → Nat} {h} (n : Nat) (e : off = ![n % 2]) : slotSem cc0_scoped3 off h = oSem n := by subst e; rfl

section Body

variable (d : Dev nD) (L : grid0.Coords)
variable (X : S8192x128.Idx → Elt F .f32) (I : S262144.Idx → Elt F .i32) (q : PosShare TreeShare)

/-- Trip `n`'s share of the index list: one half for each slot. -/
def iQ (n : Nat) : PosShare TreeShare := if n % 2 = 0 then q.left else q.right

abbrev sPts (n : Nat) (f : S512.Idx → Elt F .i32) : sProp 𝕄 := (tile d L).loc cc0_scoped0 ↦[sHalf (n % 2)]{fullShare} f
abbrev rPts (n : Nat) (f : S2x256x128.Idx → Elt F .f32) : sProp 𝕄 := (tile d L).loc cc0_scoped2 ↦[rHalf (n % 2)]{fullShare} f
/-- Block `n` of the tile's part of the index list, and of the gathered array. -/
abbrev iSet (n : Nat) : Finset S262144.Idx := iRange (256 * (base L + n)) (256 * (base L + n) + 256)
abbrev oSet (n : Nat) : Finset S262144x128.Idx := oRange (256 * (base L + n)) (256 * (base L + n) + 256)

/-- What a block of the index list credits on arrival, and a block of the gathered array. -/
abbrev iCredit : Nat := (sSlot ![0] (by decide)).view.dmaCredit
abbrev oCredit : Nat := (oBlk ![0, 0] (by decide)).view.dmaCredit

/-- Trip `n`'s index slot: free; and with block `n` on its way into it. -/
def slotFree (n : Nat) : sProp 𝕄 := iprop((∃ f, sPts d L n f) ∗ semVal (tile d L, SemLoc.dma (iSem n)) 0 ∗ iLoc d ↦{iQ q n} I)
def slotBusy (n : Nat) : sProp 𝕄 := iprop(Transfers.Flight countersEmb (tile d L) (.dma (iSem n)) none iCredit
    iprop(sPts d L n (slotIdx I (base L + n)) ∗ iLoc d ↦[iSet L n]{iQ q n} I) ∗ iLoc d ↦[Finset.univ \ iSet L n]{iQ q n} I)
/-- Trip `n`'s row slot: free; and with block `n` on its way out of it. -/
def rowFree (n : Nat) : sProp 𝕄 := iprop((∃ f, rPts d L n f) ∗ semVal (tile d L, SemLoc.dma (oSem n)) 0)
def rowBusy (n : Nat) : sProp 𝕄 := Transfers.Flight countersEmb (tile d L) (.dma (oSem n)) none oCredit
    iprop((oLoc d ↦[oSet L n]{fullShare} gath X I) ∗ rPts d L n (slotRows X I (base L + n)))

theorem idx_split (n : Nat) : (iLoc d ↦{iQ q n} I : sProp 𝕄)
    ⊣⊢ iprop((iLoc d ↦[iSet L n]{iQ q n} I) ∗ (iLoc d ↦[Finset.univ \ iSet L n]{iQ q n} I)) :=
  pointsTo_split_subset (Finset.subset_univ _)

/-- The fetch of block `n` of the index list. -/
theorem step_fetch {off off' offs : Fin 1 → Nat} {h h' hs} {hsrc hdst hsem} {Q : PUnit → sProp 𝕄} (n : Nat) (hn : base L + n < 1024)
    (e : off = ![256 * (n % 2)]) (e' : off' = ![256 * (base L + n)]) (es : offs = ![n % 2]) :
    iprop(slotFree d L I q n) ⊢ iprop((slotBusy d L I q n -∗ Q ⟨⟩)
      -∗ wp frame (wpE (defs₀ (F := F)) 𝒱₀ (tile d L) none) Set.univ
          (Prog.lift (.enqueueDma (iBlk off' h') (.here (sSlot off h)) (.dma (slotSem cc0_scoped1 offs hs)) hsrc hdst hsem)) Q) := by
  subst e e' es
  unfold slotFree slotBusy
  have hD (f : S512.Idx → Elt F .i32) : iprop(((sSlot _ h).view.loc (tile d L) ↦[(sSlot _ h).view.set]{fullShare}
        (sSlot _ h).view.write (Elt F) f ((iBlk _ h').view.read (Elt F) I) Finset.univ)
      ∗ ((iBlk _ h').view.loc (tile d L) ↦[(iBlk _ h').view.set]{iQ q n} I))
      ⊢ (iprop(sPts d L n (slotIdx I (base L + n)) ∗ iLoc d ↦[iSet L n]{iQ q n} I) : sProp 𝕄) := by
    rw [set_sSlot _ rfl, set_iBlk _ rfl, pointsTo_congr fun x hx => write_sSlot rfl rfl hn f I x hx]
  iintro ⟨⟨%f, Hs⟩, Hv, Hi⟩ Hk
  ihave Hi2 := (idx_split d L I q n).1 $$ Hi
  icases Hi2 with ⟨Hi, Hir⟩
  ihave Hi' := (Entails.of_eq (show (iLoc d ↦[iSet L n]{iQ q n} I : sProp 𝕄) = (iBlk _ h').view.loc (tile d L) ↦[(iBlk _ h').view.set]{iQ q n} I by
    rw [set_iBlk _ rfl])) $$ Hi
  ihave Hs' := (Entails.of_eq (show (sPts d L n f : sProp 𝕄) = (sSlot _ h).view.loc (tile d L) ↦[(sSlot _ h).view.set]{fullShare} f by
    rw [set_sSlot _ rfl])) $$ Hs
  iapply (Transfers.wp_dmaLocal (fd := f) countersEmb 𝒱₀ (tile d L) none (none : HIx 1) iCredit rfl (by decide) (Finset.Subset.refl _)) $$ [Hi' Hs' Hv]
  · isplitl [Hi']; · iexact Hi'
    isplitl [Hs']; · iexact Hs'
    iexact Hv
  iintro Hfl
  ihave Hfl := Transfers.Flight_mono countersEmb (tile d L) (hD f) $$ Hfl
  sl_step
  iapply Hk
  isplitl [Hfl]; · iexact Hfl
  iexact Hir

/-- Trip `n`'s index slot with block `n` in it. -/
def slotFull (n : Nat) : sProp 𝕄 := iprop(sPts d L n (slotIdx I (base L + n)) ∗ semVal (tile d L, SemLoc.dma (iSem n)) 0 ∗ iLoc d ↦{iQ q n} I)

theorem slotFull_free (n : Nat) : slotFull d L I q n ⊢ slotFree d L I q n := by
  unfold slotFull slotFree
  iintro ⟨Hs, Hv, Hi⟩
  isplitl [Hs]; · iexists _; iexact Hs
  isplitl [Hv]; · iexact Hv
  iexact Hi

variable (O : CellTallies nD τ sig (HIx 1)) (W : Finset (SemLoc sig × HIx 1))

/-- What the tile owes, with waits of the launch's own index recorded beside those it came with. -/
def owed : sProp 𝕄 := iprop(∃ W', ⌜∀ p ∈ W', p ∈ W ∨ p.2 = none⌝ ∗ owes (tile d L) O W')

theorem owed_insert {W' : Finset (SemLoc sig × HIx 1)} (s : SemLoc sig) (h : ∀ p ∈ W', p ∈ W ∨ p.2 = none) :
    ∀ p ∈ insert (s, (none : HIx 1)) W', p ∈ W ∨ p.2 = none := fun p hp => by
  rcases Finset.mem_insert.mp hp with rfl | hp
  · exact .inr rfl
  · exact h p hp

/-- The wait for block `n` of the index list. -/
theorem step_arrive {off off' offs : Fin 1 → Nat} {h h' hs} {hsrc hdst} {Q : PUnit → sProp 𝕄} (n : Nat) (es : offs = ![n % 2]) :
    iprop(slotBusy d L I q n ∗ owed d L O W ∗ Transfers.MayWaits (tile d L) (none : HIx 1) O)
      ⊢ iprop((slotFull d L I q n ∗ owed d L O W -∗ Q ⟨⟩)
        -∗ wp frame (wpE (defs₀ (F := F)) 𝒱₀ (tile d L) none) Set.univ
          (Prog.lift (.waitDma2 (slotSem cc0_scoped1 offs hs) (iBlk off' h') (sSlot off h) hsrc hdst)) Q) := by
  subst es
  unfold slotBusy slotFull owed
  iintro ⟨⟨Hfl, Hir⟩, ⟨%W', %hW', HO⟩, Hmw⟩ Hk
  iapply (Transfers.wp_waitLocalO countersEmb 𝒱₀ (tile d L) none (none : HIx 1) (rfl : (sSlot off h).view.dmaCredit = iCredit)) $$ [Hfl HO Hmw]
  · isplitl [Hfl]; · iexact Hfl
    isplitl [HO]; · iexact HO
    iapply (Transfers.MayWaits.elim (SemLoc.dma (iSem n))) $$ Hmw
  iintro ⟨⟨Hs, Hi⟩, Hv, HO⟩
  ihave Hi := (idx_split d L I q n).2 $$ [Hi Hir]
  · isplitl [Hi]; · iexact Hi
    iexact Hir
  sl_step
  iapply Hk
  isplitr [HO]
  · isplitl [Hs]; · iexact Hs
    isplitl [Hv]; · iexact Hv
    iexact Hi
  iexists _
  isplitr [HO]
  rotate_left
  · iexact HO
  · ipureintro; exact owed_insert W _ hW'

/-- The list in a slot names rows of the table. -/
theorem slotIdx_in {off : Fin 1 → Nat} {h} (n : Nat) (hlt : ∀ x, (I x).toNat < 8192) :
    ∀ x, ((sSlot off h).view.read (Elt F) (slotIdx I n) x).toNat < S8192x128.size gathers_S8192x128_S256x128.axis := fun _ => hlt _

/-- What the rows of one slot credit together. -/
abbrev gCredit : Nat := (rSlot ![0, 0, 0] (by decide)).view.dmaCredit

theorem rSlot_credit {off : Fin 3 → Nat} {h} : (rSlot off h).view.dmaCredit = gCredit := rfl

theorem rows_credit {off : Fin 3 → Nat} {h} (hg : S8192x128.Gathers 0 S256x128) :
    ∑ j, ((rSlot off h).slice (S256x128.rowRect hg.axis' j) (S256x128.stride_rowRect hg.axis' j)).view.dmaCredit = gCredit := by
  have hj : ∀ j, ((rSlot off h).slice (S256x128.rowRect hg.axis' j) (S256x128.stride_rowRect hg.axis' j)).view.dmaCredit
      = ((rSlot ![0, 0, 0] (by decide)).slice (S256x128.rowRect hg.axis' j) (S256x128.stride_rowRect hg.axis' j)).view.dmaCredit := fun _ => rfl
  rw [Finset.sum_congr rfl fun j _ => hj j]
  clear hj; revert hg
  decide

/-- The copy of block `n`'s gathered rows to their place. -/
theorem step_put {off : Fin 2 → Nat} {off' : Fin 3 → Nat} {offs : Fin 1 → Nat} {h h' hs} {hsrc hdst hsem} {Q : PUnit → sProp 𝕄} (n : Nat) (hn : base L + n < 1024)
    (fo : S262144x128.Idx → Elt F .f32) (e : off = ![256 * (base L + n), 0]) (e' : off' = ![n % 2, 0, 0]) (es : offs = ![n % 2]) :
    iprop(rPts d L n (slotRows X I (base L + n)) ∗ semVal (tile d L, SemLoc.dma (oSem n)) 0 ∗ (oLoc d ↦[oSet L n]{fullShare} fo))
      ⊢ iprop((rowBusy d L X I n -∗ Q ⟨⟩)
        -∗ wp frame (wpE (defs₀ (F := F)) 𝒱₀ (tile d L) none) Set.univ
          (Prog.lift (.enqueueDma (rSlot off' h') (.here (oBlk off h)) (.dma (slotSem cc0_scoped3 offs hs)) hsrc hdst hsem)) Q) := by
  subst e e' es
  have hD : iprop(((oBlk _ h).view.loc (tile d L) ↦[(oBlk _ h).view.set]{fullShare}
        (oBlk _ h).view.write (Elt F) fo ((rSlot _ h').view.read (Elt F) (slotRows X I (base L + n))) Finset.univ)
      ∗ ((rSlot _ h').view.loc (tile d L) ↦[(rSlot _ h').view.set]{fullShare} slotRows X I (base L + n)))
      ⊢ (iprop((oLoc d ↦[oSet L n]{fullShare} gath X I) ∗ rPts d L n (slotRows X I (base L + n))) : sProp 𝕄) := by
    rw [set_oBlk _ rfl, set_rSlot _ rfl, pointsTo_congr fun x hx => write_oBlk rfl rfl hn fo X I x hx]
  unfold rowBusy
  iintro ⟨Hr, Hv, Ho⟩ Hk
  ihave Hr' := (Entails.of_eq (show (rPts d L n (slotRows X I (base L + n)) : sProp 𝕄) = (rSlot _ h').view.loc (tile d L) ↦[(rSlot _ h').view.set]{fullShare} slotRows X I (base L + n) by
    rw [set_rSlot _ rfl])) $$ Hr
  ihave Ho' := (Entails.of_eq (show (oLoc d ↦[oSet L n]{fullShare} fo : sProp 𝕄) = (oBlk _ h).view.loc (tile d L) ↦[(oBlk _ h).view.set]{fullShare} fo by
    rw [set_oBlk _ rfl])) $$ Ho
  iapply (Transfers.wp_dmaLocal (fd := fo) countersEmb 𝒱₀ (tile d L) none (none : HIx 1) oCredit rfl (by decide) (Finset.Subset.refl _)) $$ [Hr' Ho' Hv]
  · isplitl [Hr']; · iexact Hr'
    isplitl [Ho']; · iexact Ho'
    iexact Hv
  iintro Hfl
  ihave Hfl := Transfers.Flight_mono countersEmb (tile d L) hD $$ Hfl
  sl_step
  iapply Hk
  iexact Hfl

/-- The wait for that copy. -/
theorem step_done {off : Fin 2 → Nat} {off' : Fin 3 → Nat} {offs : Fin 1 → Nat} {h h' hs} {hsrc hdst} {Q : PUnit → sProp 𝕄} (n : Nat) (es : offs = ![n % 2]) :
    iprop(rowBusy d L X I n ∗ owed d L O W ∗ Transfers.MayWaits (tile d L) (none : HIx 1) O)
      ⊢ iprop(((oLoc d ↦[oSet L n]{fullShare} gath X I) ∗ rowFree d L n ∗ owed d L O W -∗ Q ⟨⟩)
        -∗ wp frame (wpE (defs₀ (F := F)) 𝒱₀ (tile d L) none) Set.univ
          (Prog.lift (.waitDma2 (slotSem cc0_scoped3 offs hs) (rSlot off' h') (oBlk off h) hsrc hdst)) Q) := by
  subst es
  unfold rowBusy rowFree owed
  iintro ⟨Hfl, ⟨%W', %hW', HO⟩, Hmw⟩ Hk
  iapply (Transfers.wp_waitLocalO countersEmb 𝒱₀ (tile d L) none (none : HIx 1) (rfl : (oBlk off h).view.dmaCredit = oCredit)) $$ [Hfl HO Hmw]
  · isplitl [Hfl]; · iexact Hfl
    isplitl [HO]; · iexact HO
    iapply (Transfers.MayWaits.elim (SemLoc.dma (oSem n))) $$ Hmw
  iintro ⟨⟨Ho, Hr⟩, Hv, HO⟩
  sl_step
  iapply Hk
  isplitl [Ho]; · iexact Ho
  isplitl [Hr Hv]
  · isplitl [Hr]; · iexists _; iexact Hr
    iexact Hv
  iexists _
  isplitr [HO]
  rotate_left
  · iexact HO
  · ipureintro; exact owed_insert W _ hW'

end Body

end Cert.Proof.Sc

end
-- ==== Proof.Gather.lean ====
/-
  The gather of one block of rows into a row slot, and its wait.
-/
module

public import proofs.«01_k».proof.Proof.Steps

@[expose] public section

noncomputable section

namespace Cert.Proof.Sc

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Body

variable (d : Dev nD) (L : grid0.Coords)
variable (X : S8192x128.Idx → Elt F .f32) (I : S262144.Idx → Elt F .i32) (q : PosShare TreeShare)

variable (O : CellTallies nD τ sig (HIx 1)) (W : Finset (SemLoc sig × HIx 1))

set_option maxHeartbeats 2000000 in
/-- The gather of block `n`'s rows into its row slot, and its wait. -/
theorem step_gather {off off2 : Fin 3 → Nat} {off' : Fin 1 → Nat} {h h' h2} {hsrc hsrc2 hdst2} {Q : PUnit → sProp 𝕄} (n : Nat) (hn : base L + n < 1024)
    (hlt : ∀ x, (I x).toNat < 8192) (qx : PosShare TreeShare) (e : off = ![n % 2, 0, 0]) (e' : off' = ![256 * (n % 2)]) (e2 : off2 = ![n % 2, 0, 0]) :
    iprop((xLoc d ↦{qx} X) ∗ (∃ f, rPts d L n f) ∗ sPts d L n (slotIdx I (base L + n)) ∗ semVal (tile d L, SemLoc.dma cc0_scoped4.sem) 0
        ∗ owed d L O W ∗ Transfers.MayWaits (tile d L) (none : HIx 1) O)
      ⊢ iprop(((xLoc d ↦{qx} X) ∗ rPts d L n (slotRows X I (base L + n)) ∗ sPts d L n (slotIdx I (base L + n))
          ∗ semVal (tile d L, SemLoc.dma cc0_scoped4.sem) 0 ∗ owed d L O W -∗ Q ⟨⟩)
        -∗ wp frame (wpE (defs₀ (F := F)) 𝒱₀ (tile d L) none) Set.univ
          (SparseCore.enqueueIndirectGather rfl xAll (rSlot off h) gathers_S8192x128_S256x128 (sSlot off' h') rfl cc0_scoped4.sem hsrc rfl (Or.inl rfl))
          fun _ => wp frame (wpE (defs₀ (F := F)) 𝒱₀ (tile d L) none) Set.univ
            (SparseCore.waitIndirectGather cc0_scoped4.sem xAll (rSlot off2 h2) hsrc2 hdst2) Q) := by
  subst e e' e2
  have hD (f : S2x256x128.Idx → Elt F .f32) : iprop(((rSlot _ h).view.loc (tile d L) ↦[(rSlot _ h).view.set]{fullShare}
        (rSlot _ h).view.write (Elt F) f (SparseCore.gatherPayload gathers_S8192x128_S256x128 (xAll.view.read (Elt F) X)
          (SparseCore.rows ((sSlot _ h').view.read (Elt F) (slotIdx I (base L + n))) rfl (slotIdx_in I (base L + n) hlt))) Finset.univ)
      ∗ (xAll.view.loc (tile d L) ↦[xAll.view.set]{qx} X) ∗ ((sSlot _ h').view.loc (tile d L) ↦[(sSlot _ h').view.set]{fullShare} slotIdx I (base L + n)))
      ⊢ (iprop(rPts d L n (slotRows X I (base L + n)) ∗ (xLoc d ↦{qx} X) ∗ sPts d L n (slotIdx I (base L + n))) : sProp 𝕄) := by
    rw [set_rSlot _ rfl, set_sSlot _ rfl, set_xAll, pointsTo_congr fun x hx => write_rSlot rfl rfl hn f X I hlt _ x hx]
  unfold owed
  iintro ⟨Hx, ⟨%f, Hr⟩, Hs, Hv, ⟨%W', %hW', HO⟩, Hmw⟩ Hk
  ihave Hx' := (Entails.of_eq (show (xLoc d ↦{qx} X : sProp 𝕄) = xAll.view.loc (tile d L) ↦[xAll.view.set]{qx} X by rw [set_xAll])) $$ Hx
  ihave Hr' := (Entails.of_eq (show (rPts d L n f : sProp 𝕄) = (rSlot _ h).view.loc (tile d L) ↦[(rSlot _ h).view.set]{fullShare} f by
    rw [set_rSlot _ rfl])) $$ Hr
  ihave Hs' := (Entails.of_eq (show (sPts d L n (slotIdx I (base L + n)) : sProp 𝕄) = (sSlot _ h').view.loc (tile d L) ↦[(sSlot _ h').view.set]{fullShare} slotIdx I (base L + n) by
    rw [set_sSlot _ rfl])) $$ Hs
  rw [← wp_bind]
  iapply (SparseCore.wp_indirectGatherLocal (fd := f) countersEmb 𝒱₀ (tile d L) none (hg := gathers_S8192x128_S256x128) (none : HIx 1)
    gCredit (rows_credit _) (by decide) (slotIdx_in I (base L + n) hlt)) $$ [Hx' Hr' Hs' Hv]
  · isplitl [Hx']; · iexact Hx'
    isplitl [Hr']; · iexact Hr'
    isplitl [Hs']; · iexact Hs'
    iexact Hv
  iintro Hfl
  ihave Hfl := Transfers.Flight_mono countersEmb (tile d L) (hD f) $$ Hfl
  unfold SparseCore.waitIndirectGather
  iapply (Transfers.wp_waitLocalO countersEmb 𝒱₀ (tile d L) none (none : HIx 1) (rSlot_credit (h := h2))) $$ [Hfl HO Hmw]
  · isplitl [Hfl]; · iexact Hfl
    isplitl [HO]; · iexact HO
    iapply (Transfers.MayWaits.elim (SemLoc.dma cc0_scoped4.sem)) $$ Hmw
  iintro ⟨⟨Hr, Hx, Hs⟩, Hv, HO⟩
  sl_step
  iapply Hk
  isplitl [Hx]; · iexact Hx
  isplitl [Hr]; · iexact Hr
  isplitl [Hs]; · iexact Hs
  isplitl [Hv]; · iexact Hv
  iexists _
  isplitr [HO]
  rotate_left
  · iexact HO
  · ipureintro; exact owed_insert W _ hW'

end Body

end Cert.Proof.Sc

end
-- ==== Proof.Tile.lean ====
/-
  One tile's task: 32 trips over two index slots and two row slots. Before trip `t` block `t` of the tile's part of the
  index list is on its way into a slot (before the last trip ends), block `t - 1` of the gathered rows is on its way out
  of a row slot (after the first trip), the blocks before it are in place, and the blocks from `t` on are untouched.
-/
module

public import proofs.«01_k».proof.Proof.Gather

@[expose] public section

noncomputable section

namespace Cert.Proof.Sc

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Body

variable (d : Dev nD) (L : grid0.Coords)
variable (X : S8192x128.Idx → Elt F .f32) (I : S262144.Idx → Elt F .i32) (q : PosShare TreeShare)

variable (O : CellTallies nD τ sig (HIx 1)) (W : Finset (SemLoc sig × HIx 1))
variable (fo : S262144x128.Idx → Elt F .f32) (qx : PosShare TreeShare)

/-! ### The slots, the places in the gathered array -/

theorem slotFree_add_two (n : Nat) : slotFree d L I q (n + 2) = slotFree d L I q n := by
  have e : (n + 2) % 2 = n % 2 := by omega
  simp only [slotFree, sPts, iSem, iQ, e]

theorem rowFree_add_two (n : Nat) : rowFree (F := F) d L (n + 2) = rowFree d L n := by
  have e : (n + 2) % 2 = n % 2 := by omega
  simp only [rowFree, rPts, oSem, e]

/-- Before trip `n`: its index slot, which its block is on its way into while there is one. -/
def slotIn (n : Nat) : sProp 𝕄 := if n < 32 then slotBusy d L I q n else slotFree d L I q n

/-- Before trip `n`: the other row slot, which the block before is on its way out of if there is one. -/
def rowOut : Nat → sProp 𝕄
  | 0 => rowFree d L 1
  | n + 1 => rowBusy d L X I n

/-- The blocks of the gathered array in place before trip `n`, and those not yet begun. -/
abbrev placed (n : Nat) : sProp 𝕄 := oLoc d ↦[oRange (256 * base L) (256 * (base L + (n - 1)))]{fullShare} gath X I
abbrev toCome (n : Nat) : sProp 𝕄 := oLoc d ↦[oRange (256 * (base L + n)) (256 * (base L + 32))]{fullShare} fo

theorem toCome_split (n : Nat) (hn : n < 32) : toCome d L fo n ⊢ iprop((oLoc d ↦[oSet L n]{fullShare} fo) ∗ toCome d L fo (n + 1)) := by
  have e : oRange (256 * (base L + n)) (256 * (base L + 32)) = oSet L n ∪ oRange (256 * (base L + (n + 1))) (256 * (base L + 32)) := by
    rw [show 256 * (base L + (n + 1)) = 256 * (base L + n) + 256 by omega, oRange_union (by omega) (by omega)]
  unfold toCome
  rw [e]
  exact (pointsTo_union (oRange_disjoint (by omega))).1

theorem placed_join (n : Nat) : iprop(placed d L X I (n + 1) ∗ (oLoc d ↦[oSet L n]{fullShare} gath X I)) ⊢ placed d L X I (n + 2) := by
  have e : oRange (256 * base L) (256 * (base L + (n + 2 - 1))) = oRange (256 * base L) (256 * (base L + (n + 1 - 1))) ∪ oSet L n := by
    rw [show n + 1 - 1 = n by omega, show 256 * (base L + (n + 2 - 1)) = 256 * (base L + n) + 256 by omega, oRange_union (by omega) (by omega)]
  unfold placed
  rw [e]
  exact (pointsTo_union (oRange_disjoint (by omega))).2

/-- A side condition that holds is passed. -/
theorem wp_assumed {P : Prop} {dec : Decidable P} {Q : PLift P → sProp 𝕄} (h : P) :
    Q ⟨h⟩ ⊢ wp frame (wpE (defs₀ (F := F)) 𝒱₀ (tile d L) none) Set.univ (Prog.lift (.assume P dec)) Q := by
  refine BI.Entails.trans ?_ (Entails.of_eq (wp_assume_of 𝒱₀ (tile d L) none Set.univ h).symm)
  exact (show Q ⟨h⟩ ⊢ (iprop(|={Set.univ}=> Q ⟨h⟩) : sProp 𝕄) by iintro H; imodintro; iexact H).trans (Entails.of_eq (wp_ret _ _ _ _ _).symm)

/-! ### The guarded copies of a trip, each with what follows it -/

/-- The fetch of the next block, while there is one. -/
theorem fetch_if {c : Prop} [Decidable c] {off off' offs : Fin 1 → Nat} {h : ∀ _ : c, _} {h' : ∀ _ : c, _} {hs : ∀ _ : c, _}
    {α : Type} {p : Prog (TpuEff nD τ sig (Elt F) Λ₀ (tile d L).2) α} {Q : α → sProp 𝕄} (n : Nat) (hn : n < 32 → base L + n < 1024) (hc : c ↔ n < 32)
    (e : c → off = ![256 * (n % 2)]) (e' : c → off' = ![256 * (base L + n)]) (es : c → offs = ![n % 2]) :
    iprop(slotFree d L I q n) ⊢ iprop((slotIn d L I q n -∗ wp frame (wpE (defs₀ (F := F)) 𝒱₀ (tile d L) none) Set.univ p Q)
      -∗ wp frame (wpE (defs₀ (F := F)) 𝒱₀ (tile d L) none) Set.univ
          (if k : c then (Prog.lift (.enqueueDma (iBlk off' (h' k)) (.here (sSlot off (h k))) (.dma (slotSem cc0_scoped1 offs (hs k))) (View.wordExact_bits rfl) (View.wordExact_bits rfl) ⟨Or.inl rfl, trivial⟩)
            >>= fun _ => p) else p) Q) := by
  by_cases k : c
  · rw [dif_pos k, wp_bind]
    unfold slotIn
    rw [if_pos (hc.1 k)]
    iintro Hs Hk
    iapply (step_fetch d L I q n (hn (hc.1 k)) (e k) (e' k) (es k)) $$ Hs
    iintro Hs
    iapply Hk $$ Hs
  · rw [dif_neg k]
    unfold slotIn
    rw [if_neg fun hn => k (hc.2 hn)]
    iintro Hs Hk
    iapply Hk $$ Hs

/-- The wait for the copy out of the other row slot, after the first trip. -/
theorem done_if {c : Prop} [Decidable c] {off : Fin 2 → Nat} {off' : Fin 3 → Nat} {offs : Fin 1 → Nat} {h : ∀ _ : c, _} {h' : ∀ _ : c, _} {hs : ∀ _ : c, _}
    {α : Type} {p : Prog (TpuEff nD τ sig (Elt F) Λ₀ (tile d L).2) α} {Q : α → sProp 𝕄} (n : Nat) (hc : c ↔ 0 < n) (es : c → offs = ![(n + 1) % 2]) :
    iprop(rowOut d L X I n ∗ placed d L X I n ∗ owed d L O W ∗ Transfers.MayWaits (tile d L) (none : HIx 1) O)
      ⊢ iprop((rowFree d L (n + 1) ∗ placed d L X I (n + 1) ∗ owed d L O W -∗ wp frame (wpE (defs₀ (F := F)) 𝒱₀ (tile d L) none) Set.univ p Q)
        -∗ wp frame (wpE (defs₀ (F := F)) 𝒱₀ (tile d L) none) Set.univ
          (if k : c then (Prog.lift (.waitDma2 (slotSem cc0_scoped3 offs (hs k)) (rSlot off' (h' k)) (oBlk off (h k)) ((View.wordExact_bits rfl).reshape _ _) (View.wordExact_bits rfl))
            >>= fun _ => p) else p) Q) := by
  rcases n with _ | n
  · rw [dif_neg fun k => absurd (hc.1 k) (by omega)]
    unfold rowOut
    iintro ⟨Hr, Hp, HO, -⟩ Hk
    iapply Hk
    isplitl [Hr]; · iexact Hr
    isplitl [Hp]; · iexact Hp
    iexact HO
  · have k : c := hc.2 (by omega)
    rw [dif_pos k, wp_bind]
    unfold rowOut
    iintro ⟨Hr, Hp, HO, Hmw⟩ Hk
    iapply (step_done d L X I O W n ((es k).trans (by rw [show (n + 1 + 1) % 2 = n % 2 by omega]))) $$ [Hr HO Hmw]
    · isplitl [Hr]; · iexact Hr
      isplitl [HO]; · iexact HO
      iexact Hmw
    iintro ⟨Ho, Hr, HO⟩
    iapply Hk
    isplitl [Hr]; · iapply (Entails.of_eq (rowFree_add_two d L n).symm) $$ Hr
    isplitl [Hp Ho]
    · iapply (placed_join d L X I n)
      isplitl [Hp]; · iexact Hp
      iexact Ho
    iexact HO

/-! ### The loop -/

/-- Before trip `t`. -/
def inv (t : Nat) (acc : BitVec 32 × BitVec 32 × BitVec 32 × BitVec 32 × BitVec 32) : sProp 𝕄 :=
  iprop(⌜acc = carry t⌝ ∗ Transfers.MayWaits (tile d L) (none : HIx 1) O ∗ (xLoc d ↦{qx} X)
    ∗ slotIn d L I q t ∗ slotFree d L I q (t + 1) ∗ rowOut d L X I t ∗ rowFree d L t
    ∗ placed d L X I t ∗ toCome d L fo t ∗ semVal (tile d L, SemLoc.dma cc0_scoped4.sem) 0 ∗ owed d L O W)

set_option maxHeartbeats 4000000 in
/-- One trip. -/
theorem trip (hlt : ∀ x, (I x).toNat < 8192) (t : Fin k0_t1_loop.trips) (acc : BitVec 32 × BitVec 32 × BitVec 32 × BitVec 32 × BitVec 32) :
    inv d L X I q O W fo qx t.val acc
      ⊢ wp frame (wpE (defs₀ (F := F)) 𝒱₀ (tile d L) none) Set.univ
          (k0_t1_body L xV (Memref.isWhole_whole _) iV (Memref.isWhole_whole _) oV (Memref.isWhole_whole _) sV (Memref.isWhole_whole _) cc0_scoped1
            rV (Memref.isWhole_whole _) cc0_scoped3 cc0_scoped4 (base32 L) 1#32 0#32 t acc)
          (inv d L X I q O W fo qx (t.val + 1)) := by
  have ht : t.val < 32 := lt_of_lt_of_eq t.isLt trips_eq
  have hb : base L + 32 ≤ 1024 := by
    have h0 := (L 0).isLt; have h1 := (L 1).isLt
    simp only [base]; change (L 0).val < 2 at h0; change (L 1).val < 16 at h1; omega
  unfold inv
  iintro ⟨%hacc, #Hmw, Hx, Hin, Hfr, Hro, Hrf, Hp, Hc, Hg, HO⟩
  subst hacc
  unfold k0_t1_body carry
  simp only [k0_part1_eq_skeleton, k0_part2_eq_skeleton, k0_part1_skel, k0_part2_skel, cond2 L t, cond5 L t, ↓reduceDIte, wp_bind, ite_self]
  iapply (wp_assumed d L (chk3 t))
  iapply (wp_assumed d L (chk2 t))
  iapply (wp_assumed d L (chk1 L t))
  iapply (fetch_if d L I q (t.val + 1) (by omega) ((cond1 L t).trans (by omega)) (fun k => off4 t ((cond1 L t).1 k))
    (fun k => off5 L t ((cond1 L t).1 k)) (fun k => off6 t ((cond1 L t).1 k))) $$ Hfr
  iintro Hin'
  simp only [wp_pure]
  imodintro
  ihave Hin := (Entails.of_eq (show slotIn d L I q t.val = slotBusy d L I q t.val by unfold slotIn; rw [if_pos ht])) $$ Hin
  iapply (step_arrive d L I q O W t.val (off9 t)) $$ [Hin HO]
  · isplitl [Hin]; · iexact Hin
    isplitl [HO]; · iexact HO
    iexact Hmw
  unfold slotFull rowFree
  iintro ⟨⟨Hs, Hi, Hidx⟩, HO⟩
  icases Hrf with ⟨Hr, Ho⟩
  iapply (step_gather d L X I O W t.val (by omega) hlt qx (off10 t) (off11 t) (off10 t)) $$ [Hx Hr Hs Hg HO]
  · isplitl [Hx]; · iexact Hx
    isplitl [Hr]; · iexact Hr
    isplitl [Hs]; · iexact Hs
    isplitl [Hg]; · iexact Hg
    isplitl [HO]; · iexact HO
    iexact Hmw
  iintro ⟨Hx, Hr, Hs, Hg, HO⟩
  ihave Hc := (toCome_split d L fo t.val ht) $$ Hc
  icases Hc with ⟨Hob, Hc⟩
  iapply (step_put d L X I t.val (by omega) fo (off13 L t) (off12 t) (off14 t)) $$ [Hr Ho Hob]
  · isplitl [Hr]; · iexact Hr
    isplitl [Ho]; · iexact Ho
    iexact Hob
  iintro Hro'
  imodintro
  iapply (done_if d L X I O W t.val (cond7 L t) (fun k => off17 t ((cond7 L t).1 k))) $$ [Hro Hp HO]
  · isplitl [Hro]; · iexact Hro
    isplitl [Hp]; · iexact Hp
    isplitl [HO]; · iexact HO
    iexact Hmw
  iintro ⟨Hrf, Hp, HO⟩
  simp only [wp_pure]
  imodintro
  isplitr
  · ipureintro
    exact Prod.ext (next6 L t) (Prod.ext (next7 L t) (Prod.ext (next8 L t) (Prod.ext (next9 L t) (next10 t))))
  isplitr
  · iexact Hmw
  isplitl [Hx]; · iexact Hx
  isplitl [Hin']; · iexact Hin'
  isplitl [Hs Hi Hidx]
  · iapply (Entails.of_eq (slotFree_add_two d L I q t.val).symm)
    unfold slotFree
    isplitl [Hs]; · iexists _; iexact Hs
    isplitl [Hi]; · iexact Hi
    iexact Hidx
  isplitl [Hro']; · unfold rowOut; iexact Hro'
  isplitl [Hrf]; · unfold rowFree; iexact Hrf
  isplitl [Hp]; · iexact Hp
  isplitl [Hc]; · iexact Hc
  isplitl [Hg]; · iexact Hg
  iexact HO

/-! ### The tile's own buffers and semaphores -/

abbrev cell (d : Dev nD) (L : grid0.Coords) (s : DmaSem sig) : GSem nD τ sig := (tile d L, .dma s)

theorem ownSems0_V :
    (ownSems0 (tile d L) : sProp 𝕄)
      = iprop(semVal (cell d L (iSem 0)) 0 ∗ semVal (cell d L (iSem 1)) 0 ∗ semVal (cell d L (oSem 0)) 0 ∗ semVal (cell d L (oSem 1)) 0
          ∗ semVal (cell d L cc0_scoped4.sem) 0
          ∗ bigSep ((((((ownCells (tile d L)).erase (cell d L (iSem 0))).erase (cell d L (iSem 1))).erase (cell d L (oSem 0))).erase (cell d L (oSem 1))).erase
              (cell d L cc0_scoped4.sem)) fun g => semVal g 0) := by
  have hm (s : DmaSem sig) (hs : (SemLoc.dma s : SemLoc sig).isScoped .scVector = true) : cell d L s ∈ ownCells (tile d L) := mem_ownCells.mpr ⟨rfl, hs⟩
  have hne {s s' : DmaSem sig} (h : s ≠ s') : cell d L s ≠ cell d L s' := fun e => h (by simpa [cell] using e)
  unfold SparseCore.Cfg.ownSems0
  rw [SparseCore.bigSep_erase' (hm (iSem 0) (by decide)),
    SparseCore.bigSep_erase' (Finset.mem_erase.mpr ⟨hne (s := iSem 1) (by decide), hm (iSem 1) (by decide)⟩),
    SparseCore.bigSep_erase' (Finset.mem_erase.mpr ⟨hne (s := oSem 0) (by decide), Finset.mem_erase.mpr ⟨hne (by decide), hm (oSem 0) (by decide)⟩⟩),
    SparseCore.bigSep_erase' (Finset.mem_erase.mpr ⟨hne (s := oSem 1) (by decide), Finset.mem_erase.mpr ⟨hne (by decide), Finset.mem_erase.mpr ⟨hne (by decide),
      hm (oSem 1) (by decide)⟩⟩⟩),
    SparseCore.bigSep_erase' (Finset.mem_erase.mpr ⟨hne (s := cc0_scoped4.sem) (by decide), Finset.mem_erase.mpr ⟨hne (by decide), Finset.mem_erase.mpr ⟨hne (by decide),
      Finset.mem_erase.mpr ⟨hne (by decide), hm cc0_scoped4.sem (by decide)⟩⟩⟩⟩)]

theorem ownBufs_V :
    (ownBufs (tile d L) : sProp 𝕄)
      = iprop((∃ f, (tile d L).loc cc0_scoped0 ↦{fullShare} f) ∗ (∃ f, (tile d L).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-- The two index slots are the index scratch, and the two row slots the row scratch. -/
theorem slots_split (f : S512.Idx → Elt F .i32) :
    ((tile d L).loc cc0_scoped0 ↦{fullShare} f : sProp 𝕄) ⊢ iprop(sPts d L 0 f ∗ sPts d L 1 f) := by
  rw [← sHalf_union]
  exact (pointsTo_union sHalf_disjoint).1
theorem rows_split (f : S2x256x128.Idx → Elt F .f32) :
    ((tile d L).loc cc0_scoped2 ↦{fullShare} f : sProp 𝕄) ⊢ iprop(rPts d L 0 f ∗ rPts d L 1 f) := by
  rw [← rHalf_union]
  exact (pointsTo_union rHalf_disjoint).1
theorem slots_join : iprop((∃ f, sPts (F := F) d L 0 f) ∗ (∃ f, sPts d L 1 f)) ⊢ (iprop(∃ f, (tile d L).loc cc0_scoped0 ↦{fullShare} f) : sProp 𝕄) := by
  iintro ⟨⟨%f, Hf⟩, ⟨%g, Hg⟩⟩
  ihave H := (pointsTo_join (ℓ := (tile d L).loc cc0_scoped0) (q := fullShare) (f := f) (g := g) sHalf_disjoint) $$ [Hf Hg]
  · isplitl [Hf]; · iexact Hf
    iexact Hg
  iexists _
  iapply (Entails.of_eq (by rw [sHalf_union])) $$ H
theorem rows_join : iprop((∃ f, rPts (F := F) d L 0 f) ∗ (∃ f, rPts d L 1 f)) ⊢ (iprop(∃ f, (tile d L).loc cc0_scoped2 ↦{fullShare} f) : sProp 𝕄) := by
  iintro ⟨⟨%f, Hf⟩, ⟨%g, Hg⟩⟩
  ihave H := (pointsTo_join (ℓ := (tile d L).loc cc0_scoped2) (q := fullShare) (f := f) (g := g) rHalf_disjoint) $$ [Hf Hg]
  · isplitl [Hf]; · iexact Hf
    iexact Hg
  iexists _
  iapply (Entails.of_eq (by rw [rHalf_union])) $$ H

/-- The index list's share, a half for each slot. -/
theorem idx_halves : (iLoc d ↦{q} I : sProp 𝕄) ⊣⊢ iprop((iLoc d ↦{iQ q 0} I) ∗ (iLoc d ↦{iQ q 1} I)) := pointsTo_share (PosShare.mem_left_op_right q)

/-- The tile's rows of the gathered array. -/
abbrev tileSet : Finset S262144x128.Idx := oRange (256 * base L) (256 * (base L + 32))

/-- What the tile's task takes, and what it brings back. -/
abbrev tileIn : sProp 𝕄 := iprop((xLoc d ↦{qx} X) ∗ (iLoc d ↦{q} I) ∗ (oLoc d ↦[tileSet L]{fullShare} fo))
abbrev tileOut : sProp 𝕄 := iprop((xLoc d ↦{qx} X) ∗ (iLoc d ↦{q} I) ∗ (oLoc d ↦[tileSet L]{fullShare} gath X I))

set_option maxHeartbeats 4000000 in
/-- The tile's whole task: its rows of the gathered array hold the table rows the index list names. -/
theorem tile_body (hF : (K (F := F)).Facts) (hlt : ∀ x, (I x).toNat < 8192) (hO : ∀ g, O g none = 0) :
    iprop(levAts (K (F := F)).L (K (F := F)).lev ∗ emp
        ∗ tileIn d L X I q fo qx
        ∗ scopedBufs (tile d L) ∗ scopedSems0 (tile d L) ∗ owes (tile d L) O W)
      ⊢ wp frame (wpE (defs₀ (F := F)) 𝒱₀ (tile d L) none) Set.univ
          (cc0_gather_kernel L xV (Memref.isWhole_whole _) iV (Memref.isWhole_whole _) oV (Memref.isWhole_whole _) sV (Memref.isWhole_whole _) cc0_scoped1
            rV (Memref.isWhole_whole _) cc0_scoped3 cc0_scoped4)
          fun _ => iprop(tileOut d L X I q qx
            ∗ scopedBufs (tile d L) ∗ scopedSems0 (tile d L)
            ∗ ∃ W', ⌜∀ p ∈ W', p ∈ W ∨ p.2 = none⌝ ∗ owes (tile d L) O W') := by
  have hb : base L + 32 ≤ 1024 := by
    have h0 := (L 0).isLt; have h1 := (L 1).isLt
    simp only [base]; change (L 0).val < 2 at h0; change (L 1).val < 16 at h1; omega
  simp only [cc0_gather_kernel_eq_skeleton, cc0_gather_kernel_skel, k0_part3_eq_skeleton, k0_part4_eq_skeleton, k0_part3_skel, k0_part4_skel, wp_bind, wp_pure]
  rw [(K (F := F)).scopedBufs_V hF d (cV L) (jV L), SparseCore.Cfg.scopedSems0_V (Val := Elt F) d (cV L) (jV L), ownSems0_V, ownBufs_V]
  iintro ⟨#Hlv, -, ⟨Hx, Hi, Ho⟩, ⟨⟨%fs, Hs⟩, ⟨%fr, Hr⟩, Hbufs⟩, ⟨Hi0, Hi1, Ho0, Ho1, Hg, Hsems⟩, HO⟩
  ihave Hmw := (show (levAts (K (F := F)).L (K (F := F)).lev : sProp 𝕄) ⊢ Transfers.MayWaits (tile d L) (none : HIx 1) O from
    (K (F := F)).mayWaits_none (thr := tile d L) hO) $$ Hlv
  ihave Hi := (idx_halves d I q).1 $$ Hi
  icases Hi with ⟨Hia, Hib⟩
  ihave Hs := (slots_split d L fs) $$ Hs
  icases Hs with ⟨Hsa, Hsb⟩
  ihave Hr := (rows_split d L fr) $$ Hr
  icases Hr with ⟨Hra, Hrb⟩
  iapply (step_fetch d L I q 0 (by omega) k0_off1_eq (off2 L) k0_off3_eq) $$ [Hsa Hi0 Hia]
  · unfold slotFree
    isplitl [Hsa]; · iexists _; iexact Hsa
    isplitl [Hi0]; · iexact Hi0
    iexact Hia
  iintro Hin
  imodintro
  sl_for (inv d L X I q O W fo qx) $$ [Hmw Hx Hin Hsb Hi1 Hib Hrb Ho1 Hra Ho0 Ho Hg HO Hbufs Hsems]
  · intro t acc
    exact trip d L X I q O W fo qx hlt t acc
  isplitr [Hbufs Hsems]
  · unfold inv
    isplitr; · ipureintro; rfl
    isplitr; · iexact Hmw
    isplitl [Hx]; · iexact Hx
    isplitl [Hin]
    · iapply (Entails.of_eq (show slotIn d L I q 0 = slotBusy d L I q 0 by unfold slotIn; rw [if_pos (by omega)]).symm) $$ Hin
    isplitl [Hsb Hi1 Hib]
    · unfold slotFree
      isplitl [Hsb]; · iexists _; iexact Hsb
      isplitl [Hi1]; · iexact Hi1
      iexact Hib
    isplitl [Hrb Ho1]
    · unfold rowOut rowFree
      isplitl [Hrb]; · iexists _; iexact Hrb
      iexact Ho1
    isplitl [Hra Ho0]
    · unfold rowFree
      isplitl [Hra]; · iexists _; iexact Hra
      iexact Ho0
    isplitr
    · unfold placed
      rw [show 256 * (base L + (0 - 1)) = 256 * base L by omega, oRange_empty, pointsTo_empty]
      iempintro
    isplitl [Ho]; · iexact Ho
    isplitl [Hg]; · iexact Hg
    unfold owed
    iexists W
    isplitr [HO]; rotate_left
    · iexact HO
    · ipureintro; exact fun p hp => .inl hp
  rw [show Scf.trips k0_t1_loop.lb k0_t1_loop.ub k0_t1_loop.st = 32 from trips_eq]
  iintro %acc Hinv
  unfold inv
  icases Hinv with ⟨%hacc, #Hmw, Hx, Hin, Hfr, Hro, Hrf, Hp, -, Hg, HO⟩
  subst hacc
  iapply (wp_assumed d L (chk5 L))
  iapply (wp_assumed d L chk4)
  imodintro
  ihave Hro := (Entails.of_eq (show rowOut d L X I 32 = rowBusy d L X I 31 from rfl)) $$ Hro
  iapply (step_done d L X I O W 31 off20) $$ [Hro HO]
  · isplitl [Hro]; · iexact Hro
    isplitl [HO]; · iexact HO
    iexact Hmw
  iintro ⟨Ho, Hrg, HO⟩
  imodintro
  ihave Hp := (placed_join d L X I 31) $$ [Hp Ho]
  · isplitl [Hp]; · iexact Hp
    iexact Ho
  ihave Hsa := (Entails.of_eq (show slotIn d L I q 32 = slotFree d L I q 0 by unfold slotIn; rw [if_neg (by omega)]; rfl)) $$ Hin
  ihave Hsb := (Entails.of_eq (show slotFree d L I q 33 = slotFree d L I q 1 from rfl)) $$ Hfr
  ihave Hra := (Entails.of_eq (show rowFree (F := F) d L 32 = rowFree d L 0 from rfl)) $$ Hrf
  ihave Hrb := (Entails.of_eq (show rowFree (F := F) d L 31 = rowFree d L 1 from rfl)) $$ Hrg
  unfold slotFree rowFree
  icases Hsa with ⟨Hsa, Hi0, Hia⟩
  icases Hsb with ⟨Hsb, Hi1, Hib⟩
  icases Hra with ⟨Hra, Ho0⟩
  icases Hrb with ⟨Hrb, Ho1⟩
  isplitl [Hx Hia Hib Hp]
  · isplitl [Hx]; · iexact Hx
    isplitl [Hia Hib]
    · iapply (idx_halves d I q).2
      isplitl [Hia]; · iexact Hia
      iexact Hib
    iexact Hp
  isplitl [Hsa Hsb Hra Hrb Hbufs]
  · isplitl [Hsa Hsb]
    · iapply (slots_join d L)
      isplitl [Hsa]; · iexact Hsa
      iexact Hsb
    isplitl [Hra Hrb]
    · iapply (rows_join d L)
      isplitl [Hra]; · iexact Hra
      iexact Hrb
    iexact Hbufs
  isplitl [Hi0 Hi1 Ho0 Ho1 Hg Hsems]
  · isplitl [Hi0]; · iexact Hi0
    isplitl [Hi1]; · iexact Hi1
    isplitl [Ho0]; · iexact Ho0
    isplitl [Ho1]; · iexact Ho1
    isplitl [Hg]; · iexact Hg
    iexact Hsems
  unfold owed
  iexact HO

end Body

end Cert.Proof.Sc

end
-- ==== Proof.Task.lean ====
/-
  The SparseCore call as the launch theorem takes it: what its handshakes carry, tile by tile, each tile's task as the
  launch asks for it, and how the table, the index list and the gathered array split among the 32 tiles and come back.
-/
module

public import proofs.«01_k».proof.Proof.Tile

@[expose] public section

noncomputable section

namespace Cert.Proof.Sc

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The tiles -/

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The tile's number among the 32. -/
abbrev tileNo (c : Fin 2) (s : Fin 16) : Fin 32 := finProdFinEquiv (c, s)
/-- The tile's read share of an array that every tile reads. -/
abbrev tileShare (c : Fin 2) (s : Fin 16) : PosShare TreeShare := pieceOf fullShare 32 (by omega) (tileNo c s)

variable (X : (d : Dev nD) → Buf (Elt F) (xLoc d)) (I : (d : Dev nD) → Buf (Elt F) (iLoc d)) (fo : (d : Dev nD) → Buf (Elt F) (oLoc d))

/-- What tile `s` of SparseCore `c` is handed, -/
abbrev goPts (d : Dev nD) (c : Fin 2) (s : Fin 16) : sProp 𝕄 := tileIn d (coordsV c s) (X d) (I d) (tileShare c s) (fo d) (tileShare c s)
/-- and what it hands back. -/
abbrev tdPts (d : Dev nD) (c : Fin 2) (s : Fin 16) : sProp 𝕄 := tileOut d (coordsV c s) (X d) (I d) (tileShare c s) (tileShare c s)

/-- What the handshakes of the call carry. -/
def P : (K (F := F)).Pay (nD := nD) (Val := Elt F) (Name := ℕ) (U := UU) where
  st := fun q d c => match q with | 0 => bigSep Finset.univ fun s : Fin 16 => goPts X I fo d c s
  dn := fun q d c => match q with | 0 => bigSep Finset.univ fun s : Fin 16 => tdPts X I d c s
  go := fun q d c i => match q with | 0 => goPts X I fo d c i
  td := fun q d c i => match q with | 0 => tdPts X I d c i
  x := fun _ _ => iprop(emp)

instance P_storable : (P X I fo).IsStorable where
  st q d c := match q with
    | 0 => (inferInstance : BI.Storable (upEmb : UEmb _ 𝕄) (bigSep Finset.univ fun s : Fin 16 => goPts X I fo d c s))
  dn q d c := match q with
    | 0 => (inferInstance : BI.Storable (upEmb : UEmb _ 𝕄) (bigSep Finset.univ fun s : Fin 16 => tdPts X I d c s))
  go q d c i := match q with
    | 0 => (inferInstance : BI.Storable (upEmb : UEmb _ 𝕄) (goPts X I fo d c i))
  td q d c i := match q with
    | 0 => (inferInstance : BI.Storable (upEmb : UEmb _ 𝕄) (tdPts X I d c i))

/-! ## The task -/

theorem defs₀_vector (c : Fin τ.nSC) (s : Fin τ.nSub) :
    defs₀ (F := F) (.scVector c s) 0 ()
      = SparseCore.onTile hcore0 hsub0 (fun c s => cc0_gather_kernel (coordsV c s) xV (Memref.isWhole_whole _) iV (Memref.isWhole_whole _)
          oV (Memref.isWhole_whole _) sV (Memref.isWhole_whole _) cc0_scoped1 rV (Memref.isWhole_whole _) cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile's task, as the launch asks for it. -/
theorem tileObl (hF : (K (F := F)).Facts) (hlt : ∀ d x, (I d x).toNat < 8192) : (K (F := F)).TileObl (D (F := F)) 𝒱 (P X I fo) v₀ 0 := by
  intro d c i O W hO _ _
  simp only [show (P X I fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (X d) (I d) (tileShare c i) O W (fo d) (tileShare c i) hF (hlt d) hO).trans
    (wp_mono frame _ _ fun _ => obl_post)

/-- A SparseCore's sequencer deals its tiles what it was handed, and hands back what they bring. -/
theorem vecSplit : (K (F := F)).VecSplit' (P X I fo) 0 := by
  intro d c
  show (bigSep Finset.univ fun s : Fin 16 => goPts X I fo d c s) ⊢ |={Set.univ}=> iprop(
      (bigSep Finset.univ fun i : Fin 16 => goPts X I fo d c i)
      ∗ ((bigSep Finset.univ fun i : Fin 16 => tdPts X I d c i) -∗ bigSep Finset.univ fun s : Fin 16 => tdPts X I d c s))
  iintro H; imodintro
  isplitl [H]; · iexact H
  iintro H; iexact H

/-! ## The arrays among the tiles -/

theorem base_coordsV (c : Fin 2) (s : Fin 16) : base (coordsV c s) = 32 * (tileNo c s).val := by
  simp only [base, coordsV, tileNo, finProdFinEquiv, Equiv.coe_fn_mk]
  omega

theorem bigSep_tiles (Φ : Fin 32 → sProp 𝕄) :
    (bigSep Finset.univ fun c : Fin 2 => bigSep Finset.univ fun s : Fin 16 => Φ (tileNo c s)) = bigSep Finset.univ Φ := by
  rw [bigSep_univ_equiv (finProdFinEquiv (m := 2) (n := 16)) Φ, bigSep_univ_prod]

/-- The rows of tile `w`. -/
abbrev rowsOf (w : Fin 32) : Finset S262144x128.Idx := oRange (256 * (32 * w.val)) (256 * (32 * w.val + 32))

theorem rows_disjoint : ∀ i ∈ (Finset.univ : Finset (Fin 32)), ∀ j ∈ (Finset.univ : Finset (Fin 32)), i ≠ j → Disjoint (rowsOf i) (rowsOf j) := by
  intro i _ j _ h
  rw [Finset.disjoint_left]
  intro x hx hy
  simp only [oRange, Finset.mem_filter, Finset.mem_univ, true_and] at hx hy
  exact h (Fin.ext (by omega))

theorem rows_cover : (Finset.univ : Finset (Fin 32)).biUnion rowsOf = Finset.univ := by
  ext x
  simp only [Finset.mem_biUnion, Finset.mem_univ, true_and, oRange, Finset.mem_filter, iff_true]
  have hx : (x 0).val < 262144 := (x 0).isLt
  exact ⟨⟨(x 0).val / 8192, by omega⟩, by simp only; omega⟩

theorem oLoc_rows (d : Dev nD) (f : Buf (Elt F) (oLoc d)) :
    (oLoc d ↦{fullShare} f : sProp 𝕄) = bigSep Finset.univ fun w : Fin 32 => oLoc d ↦[rowsOf w]{fullShare} f := by
  rw [← pointsTo_biUnion Finset.univ (ℓ := oLoc d) rowsOf rows_disjoint, rows_cover]; try rfl

/-- The three arrays whole are what the tiles are handed together. -/
theorem deal (d : Dev nD) (f : Buf (Elt F) (oLoc d)) :
    (bigSep Finset.univ fun c : Fin 2 => bigSep Finset.univ fun s : Fin 16 =>
        iprop((xLoc d ↦{tileShare c s} X d) ∗ (iLoc d ↦{tileShare c s} I d) ∗ (oLoc d ↦[tileSet (coordsV c s)]{fullShare} f)) : sProp 𝕄)
      = iprop((xLoc d ↦{fullShare} X d) ∗ (iLoc d ↦{fullShare} I d) ∗ (oLoc d ↦{fullShare} f)) := by
  have e : ∀ (c : Fin 2) (s : Fin 16), tileSet (coordsV c s) = rowsOf (tileNo c s) := fun c s => by
    unfold tileSet; rw [base_coordsV]
  simp only [e]
  rw [bigSep_tiles (F := F) fun w => iprop((xLoc d ↦{pieceOf fullShare 32 (by omega) w} X d) ∗ (iLoc d ↦{pieceOf fullShare 32 (by omega) w} I d)
    ∗ (oLoc d ↦[rowsOf w]{fullShare} f)), bigSep_sep', bigSep_sep', ← pointsTo_piecesOf, ← pointsTo_piecesOf, ← oLoc_rows]

theorem st_eq (d : Dev nD) : (bigSep Finset.univ fun c : Fin ((K (F := F)).nCore 0) => (P X I fo).st 0 d c)
    = iprop((xLoc d ↦{fullShare} X d) ∗ (iLoc d ↦{fullShare} I d) ∗ (oLoc d ↦{fullShare} fo d)) :=
  deal X I d (fo d)
theorem dn_eq (d : Dev nD) : (bigSep Finset.univ fun c : Fin ((K (F := F)).nCore 0) => (P X I fo).dn 0 d c)
    = iprop((xLoc d ↦{fullShare} X d) ∗ (iLoc d ↦{fullShare} I d) ∗ (oLoc d ↦{fullShare} gath (X d) (I d))) :=
  deal X I d (gath (X d) (I d))

end Cert.Proof.Sc

end
-- ==== Proof.Block.lean ====
/-
  The TensorCore kernel's body: on whole staging buffers holding a block of gathered rows, of edge features, of node
  features and the weights, it leaves the result's buffer at `outBlk` of them and the others as they were.
-/
module

public import proofs.«01_k».proof.Proof.Task
public import proofs.«01_k».proof.Proof.Gen.KernelIdeal.Points
public import proofs.«01_k».proof.Proof.Gen.KernelIdeal.Launch
public import Idealize.ShloMosaic.Lib.Pipeline.FrameBody
public import Idealize.ShloMosaic.Lib.Pipeline.Value

@[expose] public section

noncomputable section

namespace Cert.Proof.Sc

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- A store through the whole view leaves what it stores, -/
theorem stored_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  subst h; exact View.read_writes_whole v f w
/-- and a load through it reads the contents. -/
theorem loaded_whole {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld, View.ld_unit_zero h]

/-- What the body stores, of the nine blocks it loads: the attention of 512 nodes over their 32 neighbours each. -/
def outBlk (g : Vec F S16384x128 .f32) (e : Vec F S16384x16 .f32) (n : Vec F S512x128 .f32) (wkv : Vec F S144x256 .bf16)
    (bkv : Vec F S1x256 .f32) (wq : Vec F S128x128 .bf16) (bq : Vec F S1x128 .f32) (wo : Vec F S128x128 .bf16) (bo : Vec F S1x128 .f32) :
    Vec F S512x128 .f32 :=
  k1_pay1 (k1_pay5 k1_pay2 (k1_pay3 g e wkv) (k1_pay4 bkv) n wq bq wo) bo

set_option maxRecDepth 65536 in
/-- The body's run. -/
theorem block_run (c : Dev nD) (i : grid1.Coords)
    (M1 : Memref sig .tc .vmem S16384x128 .f32) (h1 : M1.IsWhole) (M2 : Memref sig .tc .vmem S16384x16 .f32) (h2 : M2.IsWhole)
    (M3 : Memref sig .tc .vmem S512x128 .f32) (h3 : M3.IsWhole) (M4 : Memref sig .tc .vmem S144x256 .bf16) (h4 : M4.IsWhole)
    (M5 : Memref sig .tc .vmem S1x256 .f32) (h5 : M5.IsWhole) (M6 : Memref sig .tc .vmem S128x128 .bf16) (h6 : M6.IsWhole)
    (M7 : Memref sig .tc .vmem S1x128 .f32) (h7 : M7.IsWhole) (M8 : Memref sig .tc .vmem S128x128 .bf16) (h8 : M8.IsWhole)
    (M9 : Memref sig .tc .vmem S1x128 .f32) (h9 : M9.IsWhole) (M10 : Memref sig .tc .vmem S512x128 .f32) (h10 : M10.IsWhole)
    (x1 : Vec F S16384x128 .f32) (x2 : Vec F S16384x16 .f32) (x3 : Vec F S512x128 .f32) (x4 : Vec F S144x256 .bf16)
    (x5 : Vec F S1x256 .f32) (x6 : Vec F S128x128 .bf16) (x7 : Vec F S1x128 .f32) (x8 : Vec F S128x128 .bf16) (x9 : Vec F S1x128 .f32)
    (E : Set ℕ) (R : PUnit → sProp 𝕄) :
    iprop(owns (c : Thread nD τ) M1 fullShare x1 ∗ owns (c : Thread nD τ) M2 fullShare x2 ∗ owns (c : Thread nD τ) M3 fullShare x3
        ∗ owns (c : Thread nD τ) M4 fullShare x4 ∗ owns (c : Thread nD τ) M5 fullShare x5 ∗ owns (c : Thread nD τ) M6 fullShare x6
        ∗ owns (c : Thread nD τ) M7 fullShare x7 ∗ owns (c : Thread nD τ) M8 fullShare x8 ∗ owns (c : Thread nD τ) M9 fullShare x9
        ∗ (∃ y, owns (c : Thread nD τ) M10 fullShare y)
        ∗ (iprop(owns (c : Thread nD τ) M1 fullShare x1 ∗ owns (c : Thread nD τ) M2 fullShare x2 ∗ owns (c : Thread nD τ) M3 fullShare x3
          ∗ owns (c : Thread nD τ) M4 fullShare x4 ∗ owns (c : Thread nD τ) M5 fullShare x5 ∗ owns (c : Thread nD τ) M6 fullShare x6
          ∗ owns (c : Thread nD τ) M7 fullShare x7 ∗ owns (c : Thread nD τ) M8 fullShare x8 ∗ owns (c : Thread nD τ) M9 fullShare x9
          ∗ owns (c : Thread nD τ) M10 fullShare (outBlk x1 x2 x3 x4 x5 x6 x7 x8 x9)) -∗ R ⟨⟩))
      ⊢ wp frame (wpE (defs₀ (F := F)) 𝒱₀ c none) E
          (cc1__attn_body i M1 h1 M2 h2 M3 h3 M4 h4 M5 h5 M6 h6 M7 h7 M8 h8 M9 h9 M10 h10) R := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%y, %f10, -, H10⟩, Hk⟩
  sl_unfold [cc1__attn_body]
  sl_exec!
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]; · iexists _; isplitr; · ipureintro; exact hf8
                  iexact H8
  isplitl [H9]; · iexists _; isplitr; · ipureintro; exact hf9
                  iexact H9
  iexists _; isplitr; swap; · iexact H10
  ipureintro
  sl_unfold_words
  have hz : (![0, 0] : Fin 2 → Nat) = fun _ => 0 := by funext a; fin_cases a <;> rfl
  rw [stored_whole _ _ hz]
  rw [loaded_whole _ _ hz, loaded_whole _ _ hz, loaded_whole _ _ hz, loaded_whole _ _ hz, loaded_whole _ _ hz, loaded_whole _ _ hz,
    loaded_whole _ _ hz, loaded_whole _ _ hz, loaded_whole _ _ hz, hf1, hf2, hf3, hf4, hf5, hf6, hf7, hf8, hf9]
  unfold outBlk
  rfl

end Cert.Proof.Sc

end
-- ==== Proof.Region.lean ====
/-
  The TensorCore kernel's region of the program: its pipeline's proof data over the contents `V` the region is entered
  with, the body at every grid point, and the region as a step between the program's unscoped buffers.
-/
module

public import proofs.«01_k».proof.Proof.Block
public import Idealize.ShloMosaic.Lib.Pipeline.RegionArraysS

@[expose] public section

noncomputable section

namespace Cert.Proof.Sc

open Cert.KernelIdeal Cert.KernelIdeal.Gen

open Idealize.ShloMosaic Idealize.ShloMosaic.TcCoe
open Idealize.ShloMosaic.SparseCore.Cfg (HIx)
open Idealize.ShloMosaic.Pipeline (Dat BodyObligation arrRef arrRefs ucRefs afterRegion)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (V : Dev nD → Valuation τ sig (Elt F))

/-- Window `w`'s block at point `t` of the contents `V`. -/
def iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (arrRef spec1 w)))

/-- What the body leaves in the result's block at point `t`. -/
def outAt (c : Dev nD) (t : Fin cfg1.N) : Vec F S512x128 .f32 :=
  outBlk (iblk V c 0 t) (iblk V c 1 t) (iblk V c 2 t) (iblk V c 3 t) (iblk V c 4 t) (iblk V c 5 t) (iblk V c 6 t) (iblk V c 7 t) (iblk V c 8 t)

/-- The pipeline's proof data: the arrays at `V`; after the body each input's buffer at its block and the result's at
    `outAt`; nothing owed; the waits recorded before the region those of a SparseCore call. -/
def dats (_ : Fin 1) (c : Dev nD) : Dat τ (Elt F) (HIx 1) ℕ UU ℕ cfg1 c where
  A w := V c (Proc.devRef .tc (arrRef spec1 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => outAt V c t
  Φ _ := BI.emp
  q _ := fullShare
  owed _ := 0
  recorded _ := {p | (K (F := F)).lev (SparseCore.T c, p.1) p.2 ≤ 8}

theorem after_0 (c : Dev nD) (t : Fin cfg1.N) : (dats V 0 c).after 0 t = iblk V c 0 t := by dsimp only [dats]
theorem after_1 (c : Dev nD) (t : Fin cfg1.N) : (dats V 0 c).after 1 t = iblk V c 1 t := by dsimp only [dats]
theorem after_2 (c : Dev nD) (t : Fin cfg1.N) : (dats V 0 c).after 2 t = iblk V c 2 t := by dsimp only [dats]
theorem after_3 (c : Dev nD) (t : Fin cfg1.N) : (dats V 0 c).after 3 t = iblk V c 3 t := by dsimp only [dats]
theorem after_4 (c : Dev nD) (t : Fin cfg1.N) : (dats V 0 c).after 4 t = iblk V c 4 t := by dsimp only [dats]
theorem after_5 (c : Dev nD) (t : Fin cfg1.N) : (dats V 0 c).after 5 t = iblk V c 5 t := by dsimp only [dats]
theorem after_6 (c : Dev nD) (t : Fin cfg1.N) : (dats V 0 c).after 6 t = iblk V c 6 t := by dsimp only [dats]
theorem after_7 (c : Dev nD) (t : Fin cfg1.N) : (dats V 0 c).after 7 t = iblk V c 7 t := by dsimp only [dats]
theorem after_8 (c : Dev nD) (t : Fin cfg1.N) : (dats V 0 c).after 8 t = iblk V c 8 t := by dsimp only [dats]
theorem after_9 (c : Dev nD) (t : Fin cfg1.N) : (dats V 0 c).after 9 t = outAt V c t := by dsimp only [dats]

theorem before_0 (c : Dev nD) (t : Fin cfg1.N) (d) : (dats V 0 c).before 0 t d = iblk V c 0 t :=
  Dat.before_in_eq_fetched (dats V 0 c) 0 rfl (fun _ => rfl) (fun _ _ _ => rfl) (fun _ => rfl) t d
theorem before_1 (c : Dev nD) (t : Fin cfg1.N) (d) : (dats V 0 c).before 1 t d = iblk V c 1 t :=
  Dat.before_in_eq_fetched (dats V 0 c) 1 rfl (fun _ => rfl) (fun _ _ _ => rfl) (fun _ => rfl) t d
theorem before_2 (c : Dev nD) (t : Fin cfg1.N) (d) : (dats V 0 c).before 2 t d = iblk V c 2 t :=
  Dat.before_in_eq_fetched (dats V 0 c) 2 rfl (fun _ => rfl) (fun _ _ _ => rfl) (fun _ => rfl) t d
theorem before_3 (c : Dev nD) (t : Fin cfg1.N) (d) : (dats V 0 c).before 3 t d = iblk V c 3 t :=
  Dat.before_in_eq_fetched (dats V 0 c) 3 rfl (fun _ => rfl) (fun _ _ _ => rfl) (fun _ => rfl) t d
theorem before_4 (c : Dev nD) (t : Fin cfg1.N) (d) : (dats V 0 c).before 4 t d = iblk V c 4 t :=
  Dat.before_in_eq_fetched (dats V 0 c) 4 rfl (fun _ => rfl) (fun _ _ _ => rfl) (fun _ => rfl) t d
theorem before_5 (c : Dev nD) (t : Fin cfg1.N) (d) : (dats V 0 c).before 5 t d = iblk V c 5 t :=
  Dat.before_in_eq_fetched (dats V 0 c) 5 rfl (fun _ => rfl) (fun _ _ _ => rfl) (fun _ => rfl) t d
theorem before_6 (c : Dev nD) (t : Fin cfg1.N) (d) : (dats V 0 c).before 6 t d = iblk V c 6 t :=
  Dat.before_in_eq_fetched (dats V 0 c) 6 rfl (fun _ => rfl) (fun _ _ _ => rfl) (fun _ => rfl) t d
theorem before_7 (c : Dev nD) (t : Fin cfg1.N) (d) : (dats V 0 c).before 7 t d = iblk V c 7 t :=
  Dat.before_in_eq_fetched (dats V 0 c) 7 rfl (fun _ => rfl) (fun _ _ _ => rfl) (fun _ => rfl) t d
theorem before_8 (c : Dev nD) (t : Fin cfg1.N) (d) : (dats V 0 c).before 8 t d = iblk V c 8 t :=
  Dat.before_in_eq_fetched (dats V 0 c) 8 rfl (fun _ => rfl) (fun _ _ _ => rfl) (fun _ => rfl) t d

/-- The body at every point. -/
theorem body_obligation (c : Dev nD) : BodyObligation (dats V 0 c) (defs₀ (F := F)) 𝒱₀ none Set.univ := fun t => by
  rw [bigSep_W1, bigSep_W1]
  sl_whnfR [defs₀, Defs.onTc]
  simp only [before_0, before_1, before_2, before_3, before_4, before_5, before_6, before_7, before_8]
  rw [show (dats V 0 c).Φ t.succ = (dats V 0 c).Φ t.castSucc from rfl,
    show (dats V 0 c).owesAt none t.succ = (dats V 0 c).owesAt none t.castSucc from rfl,
    after_0, after_1, after_2, after_3, after_4, after_5, after_6, after_7, after_8, after_9]
  unfold outAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (block_run c _ _ _ _ _ _ _ _ _ _ _ _ _ _ _ _ _ _ _ _ _ (iblk V c 0 t) (iblk V c 1 t) (iblk V c 2 t) (iblk V c 3 t)
    (iblk V c 4 t) (iblk V c 5 t) (iblk V c 6 t) (iblk V c 7 t) (iblk V c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- What a core owes beside its buffers: nothing, having recorded only waits at or below the level a call leaves. -/
abbrev idle (c : Dev nD) : sProp 𝕄 :=
  iprop(∃ W, ⌜(K (F := F)).WBelow (SparseCore.T c) W 8⌝ ∗ owes (SparseCore.T c) (0 : CellTallies nD τ sig (HIx 1)) W)

abbrev admP : (p : Fin 1) → (pcfgs (F := F) p).Adm := fun p => (cfgs p).toPCfg_adm

set_option backward.isDefEq.respectTransparency.types false in
/-- The region, from every unscoped buffer at `V` to every unscoped buffer at what the pipeline leaves. -/
def region [∀ e, Nonempty (Elt F e)] :
    Pipeline.RegionSeg (pcfgs (F := F)) admP (dats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero (pcfgs (F := F)) admP (dats V) none (K (F := F)).L (K (F := F)).lev 0 fun _ _ => rfl
  pre c := iprop(StableHlo.held (c.tc : Thread nD τ) (ucRefs τ sig) (V c) ∗ idle c)
  post c := iprop(StableHlo.held (c.tc : Thread nD τ) (ucRefs τ sig) (afterRegion (dats V 0 c) (V c)) ∗ idle c)
  X _ := BI.emp
  Y _ := BI.emp
  Z c := StableHlo.held (c.tc : Thread nD τ) (ucRefs τ sig \ arrRefs spec1) (V c)
  hentry c := by
    rw [Pipeline.ownSems0_none, Pipeline.prefHeld_of_none _ rfl,
      StableHlo.held_sub_split (c.tc : Thread nD τ) (Pipeline.arrRefs_sub_ucRefs spec1 winFacts1.arr_unscoped) (V c),
      Pipeline.arrays_held (pcfgs (F := F)) admP (dats V) 0 launch1.toP c ((dats V 0 c).share_full fun _ => rfl)
        ((dats V 0 c).arrAt · 0) (V c) fun _ => rfl]
    iintro ⟨⟨⟨Ha, Hz⟩, %W, %hW, HO⟩, -, -⟩
    imodintro
    isplitl [Ha]; · iexact Ha
    isplitr; · iempintro
    isplitl [HO]
    · unfold Dat.owesAt Pipeline.owesWithin Dat.bound
      iexists W; isplitr; · ipureintro; exact fun p hp => Or.inl (hW p hp)
      iexact HO
    isplitr; · iempintro
    iexact Hz
  hin c := by
    rw [show (dats V 0 c).Φ 0 = (BI.emp : sProp 𝕄) from rfl]
    iintro -
    iempintro
  hout c := by
    rw [Pipeline.ownSems0_none]
    have h := scopedRest1_eq (Ix := HIx 1) (Val := Elt F) (Name := ℕ) (U := UU) (Lvl := ℕ) c
    iintro -
    isplitr; · iempintro
    isplitr; · iempintro
    iapply (Entails.of_eq h.symm)
    iempintro
  hexit c := by
    rw [StableHlo.held_sub_split (c.tc : Thread nD τ) (Pipeline.arrRefs_sub_ucRefs spec1 winFacts1.arr_unscoped) (afterRegion (dats V 0 c) (V c)),
      StableHlo.held_congr (c.tc : Thread nD τ) (S := ucRefs τ sig \ arrRefs spec1) (V := afterRegion (dats V 0 c) (V c)) (V' := V c)
        (Pipeline.afterRegion_off (dats V 0 c) (V c) (ucRefs τ sig)),
      Pipeline.arrays_held (pcfgs (F := F)) admP (dats V) 0 launch1.toP c ((dats V 0 c).share_full fun _ => rfl) _
        (afterRegion (dats V 0 c) (V c)) fun w => (Pipeline.afterRegion_arr (dats V 0 c) (V c) winFacts1.arr_inj w).symm]
    iintro ⟨Ha, HO, -, Hz⟩
    imodintro
    isplitl [Ha Hz]
    · isplitl [Ha]; · iexact Ha
      iexact Hz
    unfold Dat.owesAt Pipeline.owesWithin Dat.bound
    icases HO with ⟨%W, %hW, HO⟩
    iexists W; isplitr
    · ipureintro
      intro p hp
      rcases hW hp with h | ⟨w, s, rfl⟩
      · exact h
      · exact Nat.zero_le _
    iexact HO

theorem region_pre [∀ e, Nonempty (Elt F e)] (c : Dev nD) :
    (region V).pre c = iprop(StableHlo.held (c.tc : Thread nD τ) (ucRefs τ sig) (V c) ∗ idle c) := rfl
theorem region_post [∀ e, Nonempty (Elt F e)] (c : Dev nD) :
    (region V).post c = iprop(StableHlo.held (c.tc : Thread nD τ) (ucRefs τ sig) (afterRegion (dats V 0 c) (V c)) ∗ idle c) := rfl

end Cert.Proof.Sc

end
-- ==== Proof.Host.lean ====
/-
  The program of the TensorCore: its operations before the SparseCore call and after the TensorCore kernel, and what every
  buffer holds from stage to stage.
-/
module

public import proofs.«01_k».proof.Proof.Region

@[expose] public section

noncomputable section

namespace Cert.Proof.Sc

open Cert.KernelIdeal Cert.KernelIdeal.Gen

open Idealize.ShloMosaic Idealize.ShloMosaic.TcCoe
open Idealize.ShloMosaic.SparseCore.Cfg (HIx)
open Idealize.ShloMosaic.Pipeline (ucRefs afterRegion)
open Idealize.SL.Sem

variable {F : FTy → Type} [FloatOps F]

/-- The operations before the SparseCore call. -/
def hostOps : List (HloOp τ sig (Elt F)) := [
  StableHlo.reshape main_arg0 main_v0 (rfl : (.f32 : EltTy) = .f32) shapeCasts_S2x4096x128_S8192x128,
  StableHlo.nullary main_v1 (iotaInDim S2 32 0),
  StableHlo.nullary main_c (constantI S_ 32 4096#32),
  StableHlo.unary main_c main_v2 (broadcastInDim S2 ![] bcast_S_S2 : (⟨S_, .i32⟩ : BufTy).Contents (Elt F) → (⟨S2, .i32⟩ : BufTy).Contents (Elt F)),
  StableHlo.binary main_v1 main_v2 main_v3 (muli : (⟨S2, .i32⟩ : BufTy).Contents (Elt F) → (⟨S2, .i32⟩ : BufTy).Contents (Elt F) → (⟨S2, .i32⟩ : BufTy).Contents (Elt F)),
  StableHlo.unary main_v3 main_v4 (broadcastInDim S2x1x1 ![0] bcast_S2_S2x1x1_0 : (⟨S2, .i32⟩ : BufTy).Contents (Elt F) → (⟨S2x1x1, .i32⟩ : BufTy).Contents (Elt F)),
  StableHlo.unary main_v4 main_v5 (broadcastInDim S2x4096x32 ![0, 1, 2] bcast_S2x1x1_S2x4096x32_0_1_2 : (⟨S2x1x1, .i32⟩ : BufTy).Contents (Elt F) → (⟨S2x4096x32, .i32⟩ : BufTy).Contents (Elt F)),
  StableHlo.binary main_arg2 main_v5 main_v6 (addi : (⟨S2x4096x32, .i32⟩ : BufTy).Contents (Elt F) → (⟨S2x4096x32, .i32⟩ : BufTy).Contents (Elt F) → (⟨S2x4096x32, .i32⟩ : BufTy).Contents (Elt F)),
  StableHlo.reshape main_v6 main_v7 (rfl : (.i32 : EltTy) = .i32) shapeCasts_S2x4096x32_S262144,
  StableHlo.reshape main_arg1 main_v8 (rfl : (.f32 : EltTy) = .f32) shapeCasts_S2x4096x32x16_S262144x16,
  StableHlo.binary main_arg8 main_arg10 main_v9 ((fun a b => concatenate S128x256 1 [⟨S128x128, a⟩, ⟨S128x128, b⟩] concatenates_S128x128_S128x128_S128x256_d1) : (⟨S128x128, .f32⟩ : BufTy).Contents (Elt F) → (⟨S128x128, .f32⟩ : BufTy).Contents (Elt F) → (⟨S128x256, .f32⟩ : BufTy).Contents (Elt F)),
  StableHlo.binary main_arg4 main_v9 main_v10 ((fun l r => Host.dotGeneral dot_S16x128_S128x256_S16x256_1_0_0_1_n_n none l r) : (⟨S16x128, .f32⟩ : BufTy).Contents (Elt F) → (⟨S128x256, .f32⟩ : BufTy).Contents (Elt F) → (⟨S16x256, .f32⟩ : BufTy).Contents (Elt F)),
  StableHlo.binary main_v9 main_v10 main_v11 ((fun a b => concatenate S144x256 0 [⟨S128x256, a⟩, ⟨S16x256, b⟩] concatenates_S128x256_S16x256_S144x256_d0) : (⟨S128x256, .f32⟩ : BufTy).Contents (Elt F) → (⟨S16x256, .f32⟩ : BufTy).Contents (Elt F) → (⟨S144x256, .f32⟩ : BufTy).Contents (Elt F)),
  StableHlo.unary main_v11 main_v12 ((truncf .bf16 · bitsLt_bf16_f32) : (⟨S144x256, .f32⟩ : BufTy).Contents (Elt F) → (⟨S144x256, .bf16⟩ : BufTy).Contents (Elt F)),
  StableHlo.unary main_arg5 main_v13 (broadcastInDim S1x128 ![1] bcast_S128_S1x128_1 : (⟨S128, .f32⟩ : BufTy).Contents (Elt F) → (⟨S1x128, .f32⟩ : BufTy).Contents (Elt F)),
  StableHlo.binary main_v13 main_v9 main_v14 ((fun l r => Host.dotGeneral dot_S1x128_S128x256_S1x256_1_0_0_1_n_n none l r) : (⟨S1x128, .f32⟩ : BufTy).Contents (Elt F) → (⟨S128x256, .f32⟩ : BufTy).Contents (Elt F) → (⟨S1x256, .f32⟩ : BufTy).Contents (Elt F)),
  StableHlo.binary main_arg9 main_arg11 main_v15 ((fun a b => concatenate S256 0 [⟨S128, a⟩, ⟨S128, b⟩] concatenates_S128_S128_S256_d0) : (⟨S128, .f32⟩ : BufTy).Contents (Elt F) → (⟨S128, .f32⟩ : BufTy).Contents (Elt F) → (⟨S256, .f32⟩ : BufTy).Contents (Elt F)),
  StableHlo.unary main_v15 main_v16 (broadcastInDim S1x256 ![1] bcast_S256_S1x256_1 : (⟨S256, .f32⟩ : BufTy).Contents (Elt F) → (⟨S1x256, .f32⟩ : BufTy).Contents (Elt F)),
  StableHlo.binary main_v14 main_v16 main_v17 (addf : (⟨S1x256, .f32⟩ : BufTy).Contents (Elt F) → (⟨S1x256, .f32⟩ : BufTy).Contents (Elt F) → (⟨S1x256, .f32⟩ : BufTy).Contents (Elt F)),
  StableHlo.nullary main_cst (constant S_ .f32 0x3E3504F3#32),
  StableHlo.unary main_cst main_v18 (broadcastInDim S128x128 ![] bcast_S_S128x128 : (⟨S_, .f32⟩ : BufTy).Contents (Elt F) → (⟨S128x128, .f32⟩ : BufTy).Contents (Elt F)),
  StableHlo.binary main_arg6 main_v18 main_v19 (mulf : (⟨S128x128, .f32⟩ : BufTy).Contents (Elt F) → (⟨S128x128, .f32⟩ : BufTy).Contents (Elt F) → (⟨S128x128, .f32⟩ : BufTy).Contents (Elt F)),
  StableHlo.unary main_v19 main_v20 ((truncf .bf16 · bitsLt_bf16_f32) : (⟨S128x128, .f32⟩ : BufTy).Contents (Elt F) → (⟨S128x128, .bf16⟩ : BufTy).Contents (Elt F)),
  StableHlo.nullary main_cst_0 (constant S_ .f32 0x3E3504F3#32),
  StableHlo.unary main_cst_0 main_v21 (broadcastInDim S128 ![] bcast_S_S128 : (⟨S_, .f32⟩ : BufTy).Contents (Elt F) → (⟨S128, .f32⟩ : BufTy).Contents (Elt F)),
  StableHlo.binary main_arg7 main_v21 main_v22 (mulf : (⟨S128, .f32⟩ : BufTy).Contents (Elt F) → (⟨S128, .f32⟩ : BufTy).Contents (Elt F) → (⟨S128, .f32⟩ : BufTy).Contents (Elt F)),
  StableHlo.reshape main_v22 main_v23 (rfl : (.f32 : EltTy) = .f32) shapeCasts_S128_S1x128,
  StableHlo.unary main_arg12 main_v24 ((truncf .bf16 · bitsLt_bf16_f32) : (⟨S128x128, .f32⟩ : BufTy).Contents (Elt F) → (⟨S128x128, .bf16⟩ : BufTy).Contents (Elt F)),
  StableHlo.reshape main_arg13 main_v25 (rfl : (.f32 : EltTy) = .f32) shapeCasts_S128_S1x128]

/-- The operation after the TensorCore kernel: the result's reshape. -/
def lastOp : HloOp τ sig (Elt F) := StableHlo.reshape main_v27 main_v28 (rfl : (.f32 : EltTy) = .f32) shapeCasts_S8192x128_S2x4096x128

/-- The program in three stages. -/
theorem main_eq (d : Dev nD) : main (F := F) d
    = StableHlo.seq hostOps >>= fun _ => (sc (F := F)).run d 0 >>= fun _ =>
        Prog.lift (.customCall (SparseCore.inner (Pipeline.entry 0)) ()) >>= fun _ => StableHlo.seq [lastOp] := by
  simp only [hostOps, StableHlo.seq, bind_assoc, pure_bind]
  rfl

abbrev rX : DevRef τ sig := Proc.devRef .tc main_v0
abbrev rI : DevRef τ sig := Proc.devRef .tc main_v7
abbrev rO : DevRef τ sig := Proc.devRef .tc main_v26

variable (m : (ℓ : Loc nD τ sig) → Buf (Elt F) ℓ)

/-- Every buffer at the start, -/
def V0 (d : Dev nD) : Valuation τ sig (Elt F) := fun b => m (d, b)
/-- when the SparseCore call starts, -/
def V1 (d : Dev nD) : Valuation τ sig (Elt F) := StableHlo.after hostOps (V0 m d)
/-- when it has ended, -/
def V2 (d : Dev nD) : Valuation τ sig (Elt F) := Function.update (V1 m d) rO (gath (V1 m d rX) (V1 m d rI))
/-- when the TensorCore kernel has ended, -/
def V3 (d : Dev nD) : Valuation τ sig (Elt F) := afterRegion (dats (V2 m) 0 d) (V2 m d)
/-- and at the end. -/
def V4 (d : Dev nD) : Valuation τ sig (Elt F) := StableHlo.after [lastOp] (V3 m d)

end Cert.Proof.Sc

end
-- ==== Proof.Reads.lean ====
/-
  What the program's buffers hold from stage to stage, read at the buffers that matter: the arguments, which stay as they
  were, and the buffers the two kernels read.
-/
module

public import proofs.«01_k».proof.Proof.Host
public import Idealize.ShloMosaic.Lib.StableHlo.RunRead

@[expose] public section

noncomputable section

namespace Cert.Proof.Sc

open Cert.KernelIdeal Cert.KernelIdeal.Gen

open Idealize.ShloMosaic Idealize.ShloMosaic.TcCoe
open Idealize.ShloMosaic.Pipeline (ucRefs afterRegion)

variable {F : FTy → Type} [FloatOps F]
variable (m : (ℓ : Loc nD τ sig) → Buf (Elt F) ℓ) (d : Dev nD)

/-- The words the SparseCore call reads: each index raised by its batch's first row of the table, the three axes in one. -/
def idxWords (a : S2x4096x32.Idx → Elt F .i32) : S262144.Idx → Elt F .i32 :=
  shapeCast S262144 (addi a (broadcastInDim S2x4096x32 ![0, 1, 2] bcast_S2x1x1_S2x4096x32_0_1_2
    (broadcastInDim S2x1x1 ![0] bcast_S2_S2x1x1_0 (muli (iotaInDim S2 32 0) (broadcastInDim S2 ![] bcast_S_S2 (constantI S_ 32 4096#32))))))
    shapeCasts_S2x4096x32_S262144

/-- The two weights side by side, the keys' left of the values'. -/
def wkv2 (a b : S128x128.Idx → Elt F .f32) : S128x256.Idx → Elt F .f32 :=
  concatenate S128x256 1 [⟨S128x128, a⟩, ⟨S128x128, b⟩] concatenates_S128x128_S128x128_S128x256_d1

/-- The weight of the joined rows: for the gathered row the two weights, below them the edge weight folded into both. -/
def wkvFull (we : S16x128.Idx → Elt F .f32) (a b : S128x128.Idx → Elt F .f32) : S144x256.Idx → Elt F .bf16 :=
  truncf .bf16 (concatenate S144x256 0 [⟨S128x256, wkv2 a b⟩,
    ⟨S16x256, Host.dotGeneral dot_S16x128_S128x256_S16x256_1_0_0_1_n_n none we (wkv2 a b)⟩]
    concatenates_S128x256_S16x256_S144x256_d0) bitsLt_bf16_f32

/-- The bias of the joined rows. -/
def bkvFull (be bk bv : S128.Idx → Elt F .f32) (a b : S128x128.Idx → Elt F .f32) : S1x256.Idx → Elt F .f32 :=
  addf (Host.dotGeneral dot_S1x128_S128x256_S1x256_1_0_0_1_n_n none (broadcastInDim S1x128 ![1] bcast_S128_S1x128_1 be) (wkv2 a b))
    (broadcastInDim S1x256 ![1] bcast_S256_S1x256_1 (concatenate S256 0 [⟨S128, bk⟩, ⟨S128, bv⟩] concatenates_S128_S128_S256_d0))

/-- The queries' weight, scaled, -/
def wqFull (wq : S128x128.Idx → Elt F .f32) : S128x128.Idx → Elt F .bf16 :=
  truncf .bf16 (mulf wq (broadcastInDim S128x128 ![] bcast_S_S128x128 (constant S_ .f32 0x3E3504F3#32))) bitsLt_bf16_f32

/-- and their bias. -/
def bqFull (bq : S128.Idx → Elt F .f32) : S1x128.Idx → Elt F .f32 :=
  shapeCast S1x128 (mulf bq (broadcastInDim S128 ![] bcast_S_S128 (constant S_ .f32 0x3E3504F3#32))) shapeCasts_S128_S1x128

/-! ### The buffers the kernels read -/

theorem V1_v0 : V1 m d (Proc.devRef .tc main_v0) = shapeCast S8192x128 (m (d, Proc.devRef .tc main_arg0)) shapeCasts_S2x4096x128_S8192x128 := by
  unfold V1
  after_reads_simp
  rfl

theorem V1_v7 : V1 m d (Proc.devRef .tc main_v7) = idxWords (m (d, Proc.devRef .tc main_arg2)) := by
  unfold V1
  after_reads_simp
  rfl

theorem V1_v8 : V1 m d (Proc.devRef .tc main_v8) = shapeCast S262144x16 (m (d, Proc.devRef .tc main_arg1)) shapeCasts_S2x4096x32x16_S262144x16 := by
  unfold V1
  after_reads_simp
  rfl

theorem V1_v12 : V1 m d (Proc.devRef .tc main_v12) = wkvFull (m (d, Proc.devRef .tc main_arg4)) (m (d, Proc.devRef .tc main_arg8)) (m (d, Proc.devRef .tc main_arg10)) := by
  unfold V1
  after_reads_simp
  rfl

theorem V1_v17 : V1 m d (Proc.devRef .tc main_v17) = bkvFull (m (d, Proc.devRef .tc main_arg5)) (m (d, Proc.devRef .tc main_arg9)) (m (d, Proc.devRef .tc main_arg11)) (m (d, Proc.devRef .tc main_arg8)) (m (d, Proc.devRef .tc main_arg10)) := by
  unfold V1
  after_reads_simp
  rfl

theorem V1_v20 : V1 m d (Proc.devRef .tc main_v20) = wqFull (m (d, Proc.devRef .tc main_arg6)) := by
  unfold V1
  after_reads_simp
  rfl

theorem V1_v23 : V1 m d (Proc.devRef .tc main_v23) = bqFull (m (d, Proc.devRef .tc main_arg7)) := by
  unfold V1
  after_reads_simp
  rfl

theorem V1_v24 : V1 m d (Proc.devRef .tc main_v24) = truncf .bf16 (m (d, Proc.devRef .tc main_arg12)) bitsLt_bf16_f32 := by
  unfold V1
  after_reads_simp
  rfl

theorem V1_v25 : V1 m d (Proc.devRef .tc main_v25) = shapeCast S1x128 (m (d, Proc.devRef .tc main_arg13)) shapeCasts_S128_S1x128 := by
  unfold V1
  after_reads_simp
  rfl

/-! ### The arguments -/

/-- Before the SparseCore call an argument holds what it held at the start. -/
theorem V1_arg (r : Ref sig .tc) (hr : r ∈ [main_arg0, main_arg1, main_arg2, main_arg3, main_arg4, main_arg5, main_arg6,
    main_arg7, main_arg8, main_arg9, main_arg10, main_arg11, main_arg12, main_arg13]) :
    V1 m d (Proc.devRef .tc r) = m (d, Proc.devRef .tc r) := by
  unfold V1
  simp only [List.mem_cons, List.not_mem_nil, or_false] at hr
  rcases hr with rfl | rfl | rfl | rfl | rfl | rfl | rfl | rfl | rfl | rfl | rfl | rfl | rfl | rfl <;>
  · after_reads_simp
    rfl

theorem V2_of_ne {b : DevRef τ sig} (h : b ≠ rO) : V2 m d b = V1 m d b := Function.update_of_ne h _ _

theorem V2_rO : V2 m d rO = gath (V1 m d rX) (V1 m d rI) := Function.update_self _ _ _

/-- At the end an argument holds what it held at the start. -/
theorem V4_arg (r : Ref sig .tc) (hr : r ∈ [main_arg0, main_arg1, main_arg2, main_arg3, main_arg4, main_arg5, main_arg6,
    main_arg7, main_arg8, main_arg9, main_arg10, main_arg11, main_arg12, main_arg13]) :
    V4 m d (Proc.devRef .tc r) = m (d, Proc.devRef .tc r) := by
  have e4 : V4 m d (Proc.devRef .tc r) = V3 m d (Proc.devRef .tc r) := by
    simp only [List.mem_cons, List.not_mem_nil, or_false] at hr
    unfold V4 lastOp
    rcases hr with rfl | rfl | rfl | rfl | rfl | rfl | rfl | rfl | rfl | rfl | rfl | rfl | rfl | rfl <;> after_reads_simp
  have e3 : V3 m d (Proc.devRef .tc r) = V2 m d (Proc.devRef .tc r) := by
    unfold V3
    refine Idealize.ShloMosaic.Pipeline.afterRegion_of_not_arr (dats (V2 m) 0 d) (V2 m d) fun w => ?_
    simp only [List.mem_cons, List.not_mem_nil, or_false] at hr
    rcases hr with rfl | rfl | rfl | rfl | rfl | rfl | rfl | rfl | rfl | rfl | rfl | rfl | rfl | rfl <;> revert w <;> decide
  have e2 : V2 m d (Proc.devRef .tc r) = V1 m d (Proc.devRef .tc r) := by
    refine V2_of_ne m d ?_
    simp only [List.mem_cons, List.not_mem_nil, or_false] at hr
    rcases hr with rfl | rfl | rfl | rfl | rfl | rfl | rfl | rfl | rfl | rfl | rfl | rfl | rfl | rfl <;> decide
  rw [e4, e3, e2, V1_arg m d r hr]

end Cert.Proof.Sc

end
-- ==== Proof.Result.lean ====
/-
  The program's result from the TensorCore kernel's blocks: where in its array each window's block lies, and the result array
  put together from the blocks the grid's points leave.
-/
module

public import proofs.«01_k».proof.Proof.Reads
public import Idealize.ShloMosaic.Lib.Pipeline.ValueKit
public import Idealize.ShloMosaic.Lib.Pointwise

@[expose] public section

noncomputable section

namespace Cert.Proof.Sc

open Cert.KernelIdeal Cert.KernelIdeal.Gen

open Idealize.ShloMosaic Idealize.ShloMosaic.TcCoe
open Idealize.ShloMosaic.Pipeline (Dat arrRef ucRefs afterRegion)

variable {F : FTy → Type} [FloatOps F]
variable (V : Dev nD → Valuation τ sig (Elt F)) (m : (ℓ : Loc nD τ sig) → Buf (Elt F) ℓ) (d : Dev nD)

/-! ### The blocks' places -/

theorem index_0 : ∀ t : Fin cfg1.N, win1_0.index t = ![t.val, 0] := (by decide +kernel : ∀ t : Fin grid1.N, _)
theorem index_1 : ∀ t : Fin cfg1.N, win1_1.index t = ![t.val, 0] := (by decide +kernel : ∀ t : Fin grid1.N, _)
theorem index_2 : ∀ t : Fin cfg1.N, win1_2.index t = ![t.val, 0] := (by decide +kernel : ∀ t : Fin grid1.N, _)
theorem index_3 : ∀ t : Fin cfg1.N, win1_3.index t = ![0, 0] := (by decide +kernel : ∀ t : Fin grid1.N, _)
theorem index_4 : ∀ t : Fin cfg1.N, win1_4.index t = ![0, 0] := (by decide +kernel : ∀ t : Fin grid1.N, _)
theorem index_5 : ∀ t : Fin cfg1.N, win1_5.index t = ![0, 0] := (by decide +kernel : ∀ t : Fin grid1.N, _)
theorem index_6 : ∀ t : Fin cfg1.N, win1_6.index t = ![0, 0] := (by decide +kernel : ∀ t : Fin grid1.N, _)
theorem index_7 : ∀ t : Fin cfg1.N, win1_7.index t = ![0, 0] := (by decide +kernel : ∀ t : Fin grid1.N, _)
theorem index_8 : ∀ t : Fin cfg1.N, win1_8.index t = ![0, 0] := (by decide +kernel : ∀ t : Fin grid1.N, _)
theorem index_9 : ∀ t : Fin cfg1.N, win1_9.index t = ![t.val, 0] := (by decide +kernel : ∀ t : Fin grid1.N, _)

/-- A point's number. -/
theorem point_lt (t : Fin cfg1.N) : t.val < 16 := t.isLt

theorem iblk_0 (t : Fin cfg1.N) (r : Fin 16384) (x : Fin 128) :
    iblk V d 0 t (ix2 r x) = V d (Proc.devRef .tc main_v26) (ix2 (⟨t.val * 16384 + r.val, by have := point_lt t; omega⟩ : Fin 262144) x) := by
  unfold iblk
  refine congrArg (V d (Proc.devRef .tc main_v26)) ?_
  blk_ext [index_0]

theorem iblk_1 (t : Fin cfg1.N) (r : Fin 16384) (x : Fin 16) :
    iblk V d 1 t (ix2 r x) = V d (Proc.devRef .tc main_v8) (ix2 (⟨t.val * 16384 + r.val, by have := point_lt t; omega⟩ : Fin 262144) x) := by
  unfold iblk
  refine congrArg (V d (Proc.devRef .tc main_v8)) ?_
  blk_ext [index_1]

theorem iblk_2 (t : Fin cfg1.N) (r : Fin 512) (x : Fin 128) :
    iblk V d 2 t (ix2 r x) = V d (Proc.devRef .tc main_v0) (ix2 (⟨t.val * 512 + r.val, by have := point_lt t; omega⟩ : Fin 8192) x) := by
  unfold iblk
  refine congrArg (V d (Proc.devRef .tc main_v0)) ?_
  blk_ext [index_2]

theorem iblk_3 (t : Fin cfg1.N) : iblk V d 3 t = V d (Proc.devRef .tc main_v12) := by
  unfold iblk
  funext y
  refine congrArg (V d (Proc.devRef .tc main_v12)) ?_
  blk_ext [index_3]

theorem iblk_4 (t : Fin cfg1.N) : iblk V d 4 t = V d (Proc.devRef .tc main_v17) := by
  unfold iblk
  funext y
  refine congrArg (V d (Proc.devRef .tc main_v17)) ?_
  blk_ext [index_4]

theorem iblk_5 (t : Fin cfg1.N) : iblk V d 5 t = V d (Proc.devRef .tc main_v20) := by
  unfold iblk
  funext y
  refine congrArg (V d (Proc.devRef .tc main_v20)) ?_
  blk_ext [index_5]

theorem iblk_6 (t : Fin cfg1.N) : iblk V d 6 t = V d (Proc.devRef .tc main_v23) := by
  unfold iblk
  funext y
  refine congrArg (V d (Proc.devRef .tc main_v23)) ?_
  blk_ext [index_6]

theorem iblk_7 (t : Fin cfg1.N) : iblk V d 7 t = V d (Proc.devRef .tc main_v24) := by
  unfold iblk
  funext y
  refine congrArg (V d (Proc.devRef .tc main_v24)) ?_
  blk_ext [index_7]

theorem iblk_8 (t : Fin cfg1.N) : iblk V d 8 t = V d (Proc.devRef .tc main_v25) := by
  unfold iblk
  funext y
  refine congrArg (V d (Proc.devRef .tc main_v25)) ?_
  blk_ext [index_8]

/-! ### The result array -/

/-- The point whose block holds node `i`, -/
def pointOf (i : Fin 8192) : Fin cfg1.N := (⟨i.val / 512, by omega⟩ : Fin 16)
/-- and the node's row there. -/
def rowIn (i : Fin 8192) : Fin 512 := ⟨i.val % 512, by omega⟩

/-- The array the kernel leaves: each node's row is that of its point's block. -/
def outArr : S8192x128.Idx → Elt F .f32 := fun i => outAt V d (pointOf (i 0)) (ix2 (rowIn (i 0)) (i 1))

theorem arrAt_9 : (dats V 0 d).arrAt 9 cfg1.N = outArr V d := by
  refine (dats V 0 d).arrAt_eq_of_covers 9 _ (by decide +kernel) fun t hf y => ?_
  blk_simp
  rw [after_9]
  idx_bounds y
  have h0 : ((((win1_9.blk t).view.emb y) 0 : Fin _) : ℕ) = t.val * 512 + (y 0 : ℕ) := by blk_simp [index_9]
  have h1 : ((((win1_9.blk t).view.emb y) 1 : Fin _) : ℕ) = (y 1 : ℕ) := by blk_simp [index_9]
  have hp : pointOf (((win1_9.blk t).view.emb y) 0) = t := Fin.ext (by
    show ((((win1_9.blk t).view.emb y) 0 : Fin _) : ℕ) / 512 = t.val
    rw [h0]; omega)
  have hy : (ix2 (rowIn (((win1_9.blk t).view.emb y) 0)) (((win1_9.blk t).view.emb y) 1) : S512x128.Idx) = y := by
    funext a
    apply Fin.ext
    match a with
    | ⟨0, _⟩ =>
      show ((((win1_9.blk t).view.emb y) 0 : Fin _) : ℕ) % 512 = (y 0 : ℕ)
      rw [h0]; omega
    | ⟨1, _⟩ => exact h1
  unfold outArr
  rw [hp, hy]

theorem V3_v27 : V3 m d (Proc.devRef .tc main_v27) = outArr (V2 m) d := by
  unfold V3
  exact (Idealize.ShloMosaic.Pipeline.afterRegion_arr (dats (V2 m) 0 d) (V2 m d) (by decide) 9).trans (arrAt_9 (V2 m) d)

/-- Node `l` of batch `b` is row `4096 b + l`. -/
theorem rows_apply (a : S8192x128.Idx → Elt F .f32) (b : Fin 2) (l : Fin 4096) (c : Fin 128) :
    shapeCast S2x4096x128 a shapeCasts_S8192x128_S2x4096x128 (ix3 b l c) = a (ix2 (⟨b.val * 4096 + l.val, by omega⟩ : Fin 8192) c) := by
  pointwise

/-- The program's result at an index. -/
theorem V4_v28 (b : Fin 2) (l : Fin 4096) (c : Fin 128) (i : Fin 8192) (hi : i.val = b.val * 4096 + l.val) :
    V4 m d (Proc.devRef .tc main_v28) (ix3 b l c) = outAt (V2 m) d (pointOf i) (ix2 (rowIn i) c) := by
  have e : V4 m d (Proc.devRef .tc main_v28)
      = shapeCast S2x4096x128 (V3 m d (Proc.devRef .tc main_v27)) shapeCasts_S8192x128_S2x4096x128 := by
    unfold V4 lastOp
    after_reads_simp
    rfl
  have hb : (⟨b.val * 4096 + l.val, by omega⟩ : Fin 8192) = i := Fin.ext hi.symm
  rw [e, V3_v27, rows_apply, hb]
  rfl

end Cert.Proof.Sc

end
-- ==== Proof.Softmax.lean ====
/-
  The attention of one node over its 32 neighbours, over the extended reals, in the two forms the programs compute it: as the
  reference writes it, and as the kernel does, which folds the edge projection into the keys' and the values' weights and the
  scale into the queries' weight, takes the exponentials of the scores themselves, adds up the weighted values first and
  divides by the exponentials' sum at the end. Where all but the values' bias is real the two are equal.
-/
module

public import Idealize.ShloMosaic.PureOps.Ideal

@[expose] public section

noncomputable section

namespace Cert.Proof.Softmax

open Idealize.ShloMosaic

/-! ### Sums and quotients of reals among the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem exp_coe (x : ℝ) : Ideal.exp (x : EReal) = ((Real.exp x : ℝ) : EReal) := rfl

theorem div_coe (x y : ℝ) (hy : y ≠ 0) : Ideal.div (x : EReal) (y : EReal) = ((x / y : ℝ) : EReal) := by
  have h : (y : EReal) ≠ 0 := by exact_mod_cast hy
  rw [Ideal.div, if_neg h, ← EReal.coe_inv, ← EReal.coe_mul, div_eq_mul_inv]

theorem sum_top (n : ℕ) : ∑ _k : Fin (n + 1), (⊤ : EReal) = ⊤ := by
  induction n with
  | zero => simp
  | succ n ih => rw [Fin.sum_univ_succ, ih]; rfl

theorem sum_bot (n : ℕ) : ∑ _k : Fin (n + 1), (⊥ : EReal) = ⊥ := by
  rw [Fin.sum_univ_succ, EReal.bot_add]

/-- The largest of finitely many reals is a real. -/
theorem fold_max_coe (s : Fin 32 → ℝ) :
    ∃ M : ℝ, max ⊥ (Finset.fold max ⊥ (fun k => (s k : EReal)) Finset.univ) = (M : EReal) := by
  have hl : (s 0 : EReal) ≤ Finset.fold max ⊥ (fun k => (s k : EReal)) Finset.univ :=
    Finset.le_fold_max _ |>.2 (Or.inr ⟨0, Finset.mem_univ _, le_rfl⟩)
  have hu : Finset.fold max ⊥ (fun k => (s k : EReal)) Finset.univ < ⊤ :=
    Finset.fold_max_lt _ |>.2 ⟨bot_lt_top, fun k _ => EReal.coe_lt_top _⟩
  rw [max_eq_right bot_le]
  refine ⟨(Finset.fold max ⊥ (fun k => (s k : EReal)) Finset.univ).toReal, (EReal.coe_toReal hu.ne ?_).symm⟩
  exact (lt_of_lt_of_le (EReal.bot_lt_coe _) hl).ne'

/-- The weighted mean: dividing at the end, or each weight by the sum of them all, shifted or not. -/
theorem mean_eq (s v : Fin 32 → ℝ) (β : EReal) (M : ℝ) :
    (∑ k, Ideal.exp (s k : EReal) * ((v k : EReal) + β)) * Ideal.div 1 (∑ k, Ideal.exp (s k : EReal))
      = ∑ k, Ideal.div (Ideal.exp ((s k : EReal) - (M : EReal))) (∑ j, Ideal.exp ((s j : EReal) - (M : EReal))) * ((v k : EReal) + β) := by
  have hD : 0 < ∑ k, Real.exp (s k) := Finset.sum_pos (fun k _ => Real.exp_pos _) ⟨0, Finset.mem_univ _⟩
  have hE : 0 < ∑ k, Real.exp (s k - M) := Finset.sum_pos (fun k _ => Real.exp_pos _) ⟨0, Finset.mem_univ _⟩
  have hw : ∀ k, Real.exp (s k - M) / (∑ j, Real.exp (s j - M)) = Real.exp (s k) / ∑ j, Real.exp (s j) := by
    intro k
    simp only [Real.exp_sub]
    rw [← Finset.sum_div]
    field_simp
  have e1 : (∑ k, Ideal.exp (s k : EReal)) = ((∑ k, Real.exp (s k) : ℝ) : EReal) := by
    rw [coe_sum]; rfl
  have e2 : ∀ k, Ideal.div (Ideal.exp ((s k : EReal) - (M : EReal))) (∑ j, Ideal.exp ((s j : EReal) - (M : EReal)))
      = ((Real.exp (s k) / ∑ j, Real.exp (s j) : ℝ) : EReal) := by
    intro k
    have : (∑ j, Ideal.exp ((s j : EReal) - (M : EReal))) = ((∑ j, Real.exp (s j - M) : ℝ) : EReal) := by
      rw [coe_sum]; rfl
    rw [this, ← EReal.coe_sub, exp_coe, div_coe _ _ hE.ne', hw]
  simp only [e2]
  rw [e1, show (1 : EReal) = ((1 : ℝ) : EReal) from rfl, div_coe _ _ hD.ne']
  simp only [exp_coe]
  have hq : 0 < 1 / ∑ k, Real.exp (s k) := by positivity
  have hp : ∀ k, 0 < Real.exp (s k) / ∑ j, Real.exp (s j) := fun k => div_pos (Real.exp_pos _) hD
  induction β using EReal.rec with
  | bot =>
    simp only [EReal.add_bot, EReal.coe_mul_bot_of_pos (Real.exp_pos _), EReal.coe_mul_bot_of_pos (hp _)]
    rw [sum_bot 31, EReal.bot_mul_coe_of_pos hq]
  | top =>
    simp only [EReal.coe_add_top, EReal.coe_mul_top_of_pos (Real.exp_pos _), EReal.coe_mul_top_of_pos (hp _)]
    rw [sum_top 31, EReal.top_mul_coe_of_pos hq]
  | coe b =>
    simp only [← EReal.coe_add, ← EReal.coe_mul, ← coe_sum]
    congr 1
    rw [Finset.sum_mul]
    refine Finset.sum_congr rfl fun k _ => ?_
    ring

/-! ### Heads and lanes -/

/-- Lane `e` of head `h`. -/
def lane (h : Fin 4) (e : Fin 32) : Fin 128 := ⟨h.val * 32 + e.val, by omega⟩

/-- The head of a lane. -/
def head (d : Fin 128) : Fin 4 := ⟨d.val / 32, by omega⟩

/-- One where the lane `d` lies in the head `h`, zero elsewhere. -/
def selAt (d : Fin 128) (h : Fin 4) : EReal := if d.val / 32 = h.val then 1 else 0

theorem sum_heads (g : Fin 4 → EReal) (d : Fin 128) : ∑ h, g h * selAt d h = g (head d) := by
  rw [Finset.sum_eq_single (head d)]
  · simp [selAt, head]
  · intro h _ hh
    have : ¬ d.val / 32 = h.val := fun e => hh (Fin.ext e.symm)
    simp [selAt, this]
  · exact fun h => absurd (Finset.mem_univ _) h

theorem sum_lanes (f : Fin 128 → EReal) (h : Fin 4) : ∑ d, f d * selAt d h = ∑ e, f (lane h e) := by
  have e1 : ∑ d, f d * selAt d h = ∑ p : Fin 4 × Fin 32, f (lane p.1 p.2) * selAt (lane p.1 p.2) h := by
    refine (Fintype.sum_equiv (finProdFinEquiv (m := 4) (n := 32)) _ _ fun p => ?_).symm
    have : lane p.1 p.2 = finProdFinEquiv (m := 4) (n := 32) p := by
      apply Fin.ext
      simp [lane, finProdFinEquiv]
      omega
    rw [this]
  rw [e1, Fintype.sum_prod_type, Finset.sum_eq_single h]
  · refine Finset.sum_congr rfl fun e _ => ?_
    have : (h.val * 32 + e.val) / 32 = h.val := by omega
    simp [selAt, lane, this]
  · intro h' _ hh
    refine Finset.sum_eq_zero fun e _ => ?_
    have : ¬ (h'.val * 32 + e.val) / 32 = h.val := fun e' => hh (Fin.ext (by omega))
    simp [selAt, lane, this]
  · exact fun h => absurd (Finset.mem_univ _) h

/-! ### The two forms -/

section
variable (S : EReal) (nb : Fin 32 → Fin 128 → EReal) (n : Fin 128 → EReal) (ed : Fin 32 → Fin 16 → EReal)
  (we : Fin 16 → Fin 128 → EReal) (be : Fin 128 → EReal) (wq : Fin 128 → Fin 128 → EReal) (bq : Fin 128 → EReal)
  (wk : Fin 128 → Fin 128 → EReal) (bk : Fin 128 → EReal) (wv : Fin 128 → Fin 128 → EReal) (bv : Fin 128 → EReal)

/-- A neighbour's row and its projected edge features, added; -/
def refJoin (k : Fin 32) (x : Fin 128) : EReal := nb k x + (∑ e, ed k e * we e x + be x)
/-- the node's query; -/
def refQ (d : Fin 128) : EReal := ∑ x, n x * wq x d + bq d
/-- a neighbour's key, and with the other weight its value; -/
def refK (w : Fin 128 → Fin 128 → EReal) (b : Fin 128 → EReal) (k : Fin 32) (d : Fin 128) : EReal :=
  ∑ x, refJoin nb ed we be k x * w x d + b d
/-- the scores of a head; -/
def refS (h : Fin 4) (k : Fin 32) : EReal :=
  (∑ e, refQ n wq bq (lane h e) * refK nb ed we be wk bk k (lane h e)) * S
/-- the exponentials of scores less their largest; -/
def refE (s : Fin 32 → EReal) (k : Fin 32) : EReal := Ideal.exp (s k - max ⊥ (Finset.fold max ⊥ s Finset.univ))
/-- the attention's result. -/
def refO (d : Fin 128) : EReal :=
  ∑ k, Ideal.div (refE (refS S nb n ed we be wq bq wk bk (head d)) k) (∑ j, refE (refS S nb n ed we be wq bq wk bk (head d)) j)
    * refK nb ed we be wv bv k d

/-- The kernel's query; -/
def kerQ (d : Fin 128) : EReal := ∑ x, n x * (wq x d * S) + bq d * S
/-- its key or value; -/
def kerK (w : Fin 128 → Fin 128 → EReal) (b : Fin 128 → EReal) (k : Fin 32) (d : Fin 128) : EReal :=
  (∑ x, nb k x * w x d + ∑ e, ed k e * ∑ x, we e x * w x d) + (∑ x, be x * w x d + b d)
/-- the exponential of its score; -/
def kerP (k : Fin 32) (h : Fin 4) : EReal :=
  Ideal.exp (∑ d, kerK nb ed we be wk bk k d * kerQ S n wq bq d * selAt d h)
/-- its result. -/
def kerO (d : Fin 128) : EReal :=
  (∑ k, (∑ h, kerP S nb n ed we be wq bq wk bk k h * selAt d h) * kerK nb ed we be wv bv k d)
    * ∑ h, Ideal.div 1 (∑ k, kerP S nb n ed we be wq bq wk bk k h) * selAt d h
end

section
variable (S : ℝ) (nb : Fin 32 → Fin 128 → ℝ) (n : Fin 128 → ℝ) (ed : Fin 32 → Fin 16 → ℝ)
  (we : Fin 16 → Fin 128 → ℝ) (be : Fin 128 → ℝ) (wq : Fin 128 → Fin 128 → ℝ) (bq : Fin 128 → ℝ)
  (wk : Fin 128 → Fin 128 → ℝ) (bk : Fin 128 → ℝ) (wv : Fin 128 → Fin 128 → ℝ) (bv : Fin 128 → EReal)

/-- A key or a value without its bias, a real. -/
def keyR (w : Fin 128 → Fin 128 → ℝ) (k : Fin 32) (d : Fin 128) : ℝ :=
  ∑ x, (nb k x + (∑ e, ed k e * we e x + be x)) * w x d

theorem refK_coe (w : Fin 128 → Fin 128 → ℝ) (b : Fin 128 → EReal) (k : Fin 32) (d : Fin 128) :
    refK (fun k x => nb k x) (fun k e => ed k e) (fun e x => we e x) (fun x => be x) (fun x d => w x d) b k d
      = (keyR nb ed we be w k d : EReal) + b d := by
  simp only [refK, refJoin, keyR, coe_sum, EReal.coe_mul, EReal.coe_add]

theorem kerK_coe (w : Fin 128 → Fin 128 → ℝ) (b : Fin 128 → EReal) (k : Fin 32) (d : Fin 128) :
    kerK (fun k x => nb k x) (fun k e => ed k e) (fun e x => we e x) (fun x => be x) (fun x d => w x d) b k d
      = (keyR nb ed we be w k d : EReal) + b d := by
  have e : keyR nb ed we be w k d = (∑ x, nb k x * w x d + ∑ e, ed k e * ∑ x, we e x * w x d) + ∑ x, be x * w x d := by
    simp only [keyR, add_mul, Finset.sum_add_distrib, Finset.sum_mul, Finset.mul_sum]
    rw [Finset.sum_comm (s := (Finset.univ : Finset (Fin 128)))]
    simp only [mul_assoc, add_assoc]
  rw [e]
  simp only [kerK, coe_sum, EReal.coe_mul, EReal.coe_add, add_assoc]

theorem kerQ_coe (d : Fin 128) : kerQ (S : EReal) (fun x => n x) (fun x d => wq x d) (fun d => bq d) d
    = (((∑ x, n x * wq x d + bq d) * S : ℝ) : EReal) := by
  have e : (∑ x, n x * wq x d + bq d) * S = ∑ x, n x * (wq x d * S) + bq d * S := by
    rw [add_mul, Finset.sum_mul]; simp only [mul_assoc]
  rw [e]
  simp only [kerQ, coe_sum, EReal.coe_mul, EReal.coe_add]

/-- A head's scores, reals. -/
def scoreR (h : Fin 4) (k : Fin 32) : ℝ :=
  (∑ e, (∑ x, n x * wq x (lane h e) + bq (lane h e)) * (keyR nb ed we be wk k (lane h e) + bk (lane h e))) * S

theorem refS_coe (h : Fin 4) (k : Fin 32) :
    refS (S : EReal) (fun k x => nb k x) (fun x => n x) (fun k e => ed k e) (fun e x => we e x) (fun x => be x)
        (fun x d => wq x d) (fun d => bq d) (fun x d => wk x d) (fun d => bk d) h k
      = (scoreR S nb n ed we be wq bq wk bk h k : EReal) := by
  simp only [refS, refQ, refK_coe, scoreR, coe_sum, EReal.coe_mul, EReal.coe_add]

theorem kerP_coe (k : Fin 32) (h : Fin 4) :
    kerP (S : EReal) (fun k x => nb k x) (fun x => n x) (fun k e => ed k e) (fun e x => we e x) (fun x => be x)
        (fun x d => wq x d) (fun d => bq d) (fun x d => wk x d) (fun d => bk d) k h
      = Ideal.exp (scoreR S nb n ed we be wq bq wk bk h k : EReal) := by
  have e : scoreR S nb n ed we be wq bq wk bk h k
      = ∑ e, (keyR nb ed we be wk k (lane h e) + bk (lane h e)) * ((∑ x, n x * wq x (lane h e) + bq (lane h e)) * S) := by
    rw [scoreR, Finset.sum_mul]
    exact Finset.sum_congr rfl fun e _ => by ring
  rw [kerP, sum_lanes, e]
  simp only [kerK_coe, kerQ_coe, coe_sum, EReal.coe_mul, EReal.coe_add]

/-- The two forms are equal. -/
theorem kerO_eq (d : Fin 128) :
    kerO (S : EReal) (fun k x => nb k x) (fun x => n x) (fun k e => ed k e) (fun e x => we e x) (fun x => be x)
        (fun x d => wq x d) (fun d => bq d) (fun x d => wk x d) (fun d => bk d) (fun x d => wv x d) bv d
      = refO (S : EReal) (fun k x => nb k x) (fun x => n x) (fun k e => ed k e) (fun e x => we e x) (fun x => be x)
        (fun x d => wq x d) (fun d => bq d) (fun x d => wk x d) (fun d => bk d) (fun x d => wv x d) bv d := by
  have hf : refS (S : EReal) (fun k x => nb k x) (fun x => n x) (fun k e => ed k e) (fun e x => we e x) (fun x => be x)
        (fun x d => wq x d) (fun d => bq d) (fun x d => wk x d) (fun d => bk d) (head d)
      = fun k => (scoreR S nb n ed we be wq bq wk bk (head d) k : EReal) :=
    funext fun k => refS_coe S nb n ed we be wq bq wk bk (head d) k
  obtain ⟨M, hM⟩ := fold_max_coe (fun k => scoreR S nb n ed we be wq bq wk bk (head d) k)
  unfold kerO refO
  rw [hf]
  simp only [sum_heads, kerP_coe, refK_coe, kerK_coe, refE, hM]
  exact mean_eq _ _ _ _
end

end Cert.Proof.Softmax

end
-- ==== Proof.KerPoint.lean ====
/-
  What the kernels' text computes, at an index, over the extended reals: the weights the host folds, the TensorCore kernel's
  payloads, and so the block of the result.
-/
module

public import proofs.«01_k».proof.Proof.Block
public import proofs.«01_k».proof.Proof.Reads
public import proofs.«01_k».proof.Proof.Softmax
public import Idealize.ShloMosaic.Lib.Pointwise

@[expose] public section

noncomputable section

namespace Cert.Proof.Sc

open Cert.KernelIdeal Cert.KernelIdeal.Gen
open Idealize.ShloMosaic
open Cert.Proof.Softmax (selAt kerQ kerK kerP kerO)

/-- The score's factor. -/
def scale : EReal := Ideal.ofBits FTy.f32 0x3E3504F3#32

/-- A column of the keys' half, -/
def colK (d : Fin 128) : Fin 256 := ⟨d.val, by omega⟩
/-- and of the values' half. -/
def colV (d : Fin 128) : Fin 256 := ⟨128 + d.val, by omega⟩
/-- A row of the joined weight under the gathered rows, -/
def rowN (x : Fin 128) : Fin 144 := ⟨x.val, by omega⟩
/-- and under the edge features. -/
def rowE (y : Fin 16) : Fin 144 := ⟨128 + y.val, by omega⟩
/-- A block's row of neighbour `k` of node `r`. -/
def rowOf (r : Fin 512) (k : Fin 32) : Fin 16384 := ⟨r.val * 32 + k.val, by omega⟩

/-! ### The weights -/

theorem wkv2_K (a b : S128x128.Idx → EReal) (x d : Fin 128) : wkv2 (F := Ideal) a b (ix2 x (colK d)) = a (ix2 x d) := by
  unfold colK; pointwise [wkv2]

theorem wkv2_V (a b : S128x128.Idx → EReal) (x d : Fin 128) : wkv2 (F := Ideal) a b (ix2 x (colV d)) = b (ix2 x d) := by
  unfold colV; pointwise [wkv2]

theorem wkvFull_N (we : S16x128.Idx → EReal) (a b : S128x128.Idx → EReal) (x : Fin 128) (c : Fin 256) :
    wkvFull (F := Ideal) we a b (ix2 (rowN x) c) = wkv2 (F := Ideal) a b (ix2 x c) := by
  unfold rowN; pointwise [wkvFull]

theorem wkvFull_E (we : S16x128.Idx → EReal) (a b : S128x128.Idx → EReal) (y : Fin 16) (c : Fin 256) :
    wkvFull (F := Ideal) we a b (ix2 (rowE y) c) = ∑ x, we (ix2 y x) * wkv2 (F := Ideal) a b (ix2 x c) := by
  unfold rowE; pointwise [wkvFull]

theorem bkvFull_K (be bk bv : S128.Idx → EReal) (a b : S128x128.Idx → EReal) (d : Fin 128) :
    bkvFull (F := Ideal) be bk bv a b (ix2 0 (colK d)) = ∑ x, be (ix1 x) * a (ix2 x d) + bk (ix1 d) := by
  have e : bkvFull (F := Ideal) be bk bv a b (ix2 0 (colK d))
      = ∑ x, be (ix1 x) * wkv2 (F := Ideal) a b (ix2 x (colK d)) + bk (ix1 d) := by
    unfold colK; pointwise [bkvFull]
  rw [e]; simp only [wkv2_K]

theorem bkvFull_V (be bk bv : S128.Idx → EReal) (a b : S128x128.Idx → EReal) (d : Fin 128) :
    bkvFull (F := Ideal) be bk bv a b (ix2 0 (colV d)) = ∑ x, be (ix1 x) * b (ix2 x d) + bv (ix1 d) := by
  have e : bkvFull (F := Ideal) be bk bv a b (ix2 0 (colV d))
      = ∑ x, be (ix1 x) * wkv2 (F := Ideal) a b (ix2 x (colV d)) + bv (ix1 d) := by
    unfold colV; pointwise [bkvFull]
  rw [e]; simp only [wkv2_V]

theorem wqFull_apply (wq : S128x128.Idx → EReal) (x d : Fin 128) : wqFull (F := Ideal) wq (ix2 x d) = wq (ix2 x d) * scale := by
  pointwise [wqFull, scale]

theorem bqFull_apply (bq : S128.Idx → EReal) (d : Fin 128) : bqFull (F := Ideal) bq (ix2 0 d) = bq (ix1 d) * scale := by
  pointwise [bqFull, scale]

/-! ### The payloads -/

theorem pay3_apply (g : S16384x128.Idx → EReal) (e : S16384x16.Idx → EReal) (w : S144x256.Idx → EReal) (r : Fin 16384) (c : Fin 256) :
    k1_pay3 (F := Ideal) g e w (ix2 r c) = ∑ x, g (ix2 r x) * w (ix2 (rowN x) c) + ∑ y, e (ix2 r y) * w (ix2 (rowE y) c) := by
  pointwise [k1_pay3]
  rfl

theorem pay4_apply (w : S1x256.Idx → EReal) (r : Fin 16384) (c : Fin 256) : k1_pay4 (F := Ideal) w (ix2 r c) = w (ix2 0 c) := by
  pointwise [k1_pay4]

theorem pay1_apply (w : S512x128.Idx → EReal) (v : S1x128.Idx → EReal) (r : Fin 512) (c : Fin 128) :
    k1_pay1 (F := Ideal) w v (ix2 r c) = w (ix2 r c) + v (ix2 0 c) := by
  pointwise [k1_pay1]

theorem pay2_apply (d : Fin 128) (h : Fin 4) : k1_pay2 (F := Ideal) (ix2 d h) = selAt d h := by
  pointwise [k1_pay2]
  have key : ∀ (d : Fin 128) (h : Fin 4),
      BitVec.setWidth 32 (IntOp.cmpi CmpIPredicate.eq (Scalar.select
        (IntOp.andi
          (IntOp.cmpi CmpIPredicate.ne
            (IntOp.subi (BitVec.setWidth 32 (IntOp.cmpi CmpIPredicate.sgt (BitVec.ofNat 32 d.val) 0#32))
              (BitVec.setWidth 32 (IntOp.cmpi CmpIPredicate.slt (BitVec.ofNat 32 d.val) 0#32)))
            (Scalar.subi (Scalar.extui (Scalar.cmpi CmpIPredicate.sgt 32#32 0#32))
              (Scalar.extui (Scalar.cmpi CmpIPredicate.slt 32#32 0#32))))
          (IntOp.cmpi CmpIPredicate.ne (IntOp.remsi ArithUnit.vector (BitVec.ofNat 32 d.val) 32#32) 0#32))
        (IntOp.subi (IntOp.divsi ArithUnit.vector (BitVec.ofNat 32 d.val) 32#32) 1#32)
        (IntOp.divsi ArithUnit.vector (BitVec.ofNat 32 d.val) 32#32)) (BitVec.ofNat 32 h.val))
      = if d.val / 32 = h.val then 1#32 else 0#32 := by decide +kernel
  rw [key, selAt]
  split
  · show (((1#32 : BitVec 32).toInt : ℝ) : EReal) = 1
    simp
  · show (((0#32 : BitVec 32).toInt : ℝ) : EReal) = 0
    simp

theorem pay5_apply (s : S128x4.Idx → EReal) (kv b : S16384x256.Idx → EReal) (n : S512x128.Idx → EReal) (wq : S128x128.Idx → EReal)
    (bq : S1x128.Idx → EReal) (wo : S128x128.Idx → EReal) (r : Fin 512) (c : Fin 128) :
    k1_pay5 (F := Ideal) s kv b n wq bq wo (ix2 r c)
      = ∑ x, ((∑ k, (∑ h, Ideal.exp (∑ d, (kv (ix2 (rowOf r k) (colK d)) + b (ix2 (rowOf r k) (colK d)))
              * (∑ y, n (ix2 r y) * wq (ix2 y d) + bq (ix2 0 d)) * s (ix2 d h)) * s (ix2 x h))
            * (kv (ix2 (rowOf r k) (colV x)) + b (ix2 (rowOf r k) (colV x))))
          * ∑ h, Ideal.div 1 (∑ k, Ideal.exp (∑ d, (kv (ix2 (rowOf r k) (colK d)) + b (ix2 (rowOf r k) (colK d)))
              * (∑ y, n (ix2 r y) * wq (ix2 y d) + bq (ix2 0 d)) * s (ix2 d h))) * s (ix2 x h)) * wo (ix2 x c) := by
  pointwise [k1_pay5]
  rfl

/-! ### The block -/

section
variable (g : S16384x128.Idx → EReal) (e : S16384x16.Idx → EReal) (n : S512x128.Idx → EReal) (we : S16x128.Idx → EReal)
  (be : S128.Idx → EReal) (wq : S128x128.Idx → EReal) (bq : S128.Idx → EReal) (wk : S128x128.Idx → EReal) (bk : S128.Idx → EReal)
  (wv : S128x128.Idx → EReal) (bv : S128.Idx → EReal) (wo : S128x128.Idx → EReal) (bo : S1x128.Idx → EReal)

theorem key_apply (r : Fin 512) (k : Fin 32) (d : Fin 128) :
    k1_pay3 (F := Ideal) g e (wkvFull (F := Ideal) we wk wv) (ix2 (rowOf r k) (colK d))
        + k1_pay4 (F := Ideal) (bkvFull (F := Ideal) be bk bv wk wv) (ix2 (rowOf r k) (colK d))
      = kerK (fun k x => g (ix2 (rowOf r k) x)) (fun k y => e (ix2 (rowOf r k) y)) (fun y x => we (ix2 y x)) (fun x => be (ix1 x))
          (fun x d => wk (ix2 x d)) (fun d => bk (ix1 d)) k d := by
  rw [pay3_apply, pay4_apply, bkvFull_K]
  simp only [wkvFull_N, wkvFull_E, wkv2_K]
  rfl

theorem value_apply (r : Fin 512) (k : Fin 32) (d : Fin 128) :
    k1_pay3 (F := Ideal) g e (wkvFull (F := Ideal) we wk wv) (ix2 (rowOf r k) (colV d))
        + k1_pay4 (F := Ideal) (bkvFull (F := Ideal) be bk bv wk wv) (ix2 (rowOf r k) (colV d))
      = kerK (fun k x => g (ix2 (rowOf r k) x)) (fun k y => e (ix2 (rowOf r k) y)) (fun y x => we (ix2 y x)) (fun x => be (ix1 x))
          (fun x d => wv (ix2 x d)) (fun d => bv (ix1 d)) k d := by
  rw [pay3_apply, pay4_apply, bkvFull_V]
  simp only [wkvFull_N, wkvFull_E, wkv2_V]
  rfl

/-- The block of the result. -/
theorem outBlk_apply (r : Fin 512) (c : Fin 128) :
    outBlk (F := Ideal) g e n (wkvFull (F := Ideal) we wk wv) (bkvFull (F := Ideal) be bk bv wk wv) (wqFull (F := Ideal) wq)
        (bqFull (F := Ideal) bq) wo bo (ix2 r c)
      = ∑ x, kerO scale (fun k x => g (ix2 (rowOf r k) x)) (fun x => n (ix2 r x)) (fun k y => e (ix2 (rowOf r k) y))
          (fun y x => we (ix2 y x)) (fun x => be (ix1 x)) (fun x d => wq (ix2 x d)) (fun d => bq (ix1 d)) (fun x d => wk (ix2 x d))
          (fun d => bk (ix1 d)) (fun x d => wv (ix2 x d)) (fun d => bv (ix1 d)) x * wo (ix2 x c) + bo (ix2 0 c) := by
  unfold outBlk
  rw [pay1_apply, pay5_apply]
  simp only [key_apply, value_apply, pay2_apply, wqFull_apply, bqFull_apply]
  rfl
end

/-! ### The SparseCore call's operands -/

theorem idxWords_apply (a : S2x4096x32.Idx → BitVec 32) (x : Fin 262144) :
    idxWords (F := Ideal) a (ix1 x)
      = a (ix3 (⟨x.val / 131072, by omega⟩ : Fin 2) (⟨x.val / 32 % 4096, by omega⟩ : Fin 4096) (⟨x.val % 32, by omega⟩ : Fin 32))
          + BitVec.ofNat 32 (x.val / 131072) * 4096#32 := by
  pointwise [idxWords]
  rfl

theorem table_apply (a : S2x4096x128.Idx → EReal) (x : Fin 8192) (d : Fin 128) :
    shapeCast S8192x128 a shapeCasts_S2x4096x128_S8192x128 (ix2 x d)
      = a (ix3 (⟨x.val / 4096, by omega⟩ : Fin 2) (⟨x.val % 4096, by omega⟩ : Fin 4096) d) := by
  pointwise

end Cert.Proof.Sc

end
-- ==== Proof.RefTerm.lean ====
/-
  The reference's result, cut in stages: the rows named by the indices, the joined features, the queries, the keys and the
  values, the scores, their mask, the attention and the result.
-/
module

public import proofs.«01_k».proof.Proof.Gen.ReferenceIdeal.Run

@[expose] public section

noncomputable section

namespace Cert.Proof.Ref

open Cert.ReferenceIdeal Cert.ReferenceIdeal.Gen
open Idealize.ShloMosaic Idealize.ShloMosaic.TcCoe

variable {F : FTy → Type} [FloatOps F]

/-- The pairs (batch, node) that name the neighbours' rows. -/
def places (a2 : S2x4096x32.Idx → Elt F .i32) : S2x4096x32x2.Idx → Elt F .i32 :=
  concatenate S2x4096x32x2 3 [⟨S2x4096x32x1, (broadcastInDim S2x4096x32x1 ![0, 1, 2] bcast_S2x4096x32_S2x4096x32x1_0_1_2 (broadcastInDim S2x4096x32 ![0, 1, 2] bcast_S2x1x1_S2x4096x32_0_1_2
      (select (cmpi .slt (broadcastInDim S2x1x1 ![0] bcast_S2_S2x1x1_0 (iotaInDim S2 32 0)) (broadcastInDim S2x1x1 ![] bcast_S_S2x1x1 (constantI S_ 32 0#32)))
        (addi (broadcastInDim S2x1x1 ![0] bcast_S2_S2x1x1_0 (iotaInDim S2 32 0)) (broadcastInDim S2x1x1 ![] bcast_S_S2x1x1 (constantI S_ 32 2#32)))
        (broadcastInDim S2x1x1 ![0] bcast_S2_S2x1x1_0 (iotaInDim S2 32 0)))))⟩,
    ⟨S2x4096x32x1, (broadcastInDim S2x4096x32x1 ![0, 1, 2] bcast_S2x4096x32_S2x4096x32x1_0_1_2
      (select (cmpi .slt a2 (broadcastInDim S2x4096x32 ![] bcast_S_S2x4096x32 (constantI S_ 32 0#32)))
        (addi a2 (broadcastInDim S2x4096x32 ![] bcast_S_S2x4096x32 (constantI S_ 32 4096#32))) a2))⟩]
    concatenates_S2x4096x32x1_S2x4096x32x1_S2x4096x32x2_d3

/-- The neighbours' rows. -/
def nbrs (a0 : S2x4096x128.Idx → Elt F .f32) (a2 : S2x4096x32.Idx → Elt F .i32) : S2x4096x32x128.Idx → Elt F .f32 :=
  Host.gather gather_S2x4096x128_S2x4096x32x2_S2x4096x32x128_3_01_n_n_01_3_11128 a0 (places a2)

/-- The neighbours' rows and the projected edge features, added. -/
def joined (g : S2x4096x32x128.Idx → Elt F .f32) (a1 : S2x4096x32x16.Idx → Elt F .f32) (a4 : S16x128.Idx → Elt F .f32)
    (a5 : S128.Idx → Elt F .f32) : S2x4096x32x128.Idx → Elt F .f32 :=
  addf g (addf (Host.dotGeneral dot_S2x4096x32x16_S16x128_S2x4096x32x128_3_0_012_1_n_n none a1 a4)
      (broadcastInDim S2x4096x32x128 ![0, 1, 2, 3] bcast_S1x1x1x128_S2x4096x32x128_0_1_2_3 (broadcastInDim S1x1x1x128 ![3] bcast_S128_S1x1x1x128_3 a5)))

/-- The queries, by head. -/
def queries (a0 : S2x4096x128.Idx → Elt F .f32) (a6 : S128x128.Idx → Elt F .f32) (a7 : S128.Idx → Elt F .f32) : S2x4x4096x32.Idx → Elt F .f32 :=
  transpose S2x4x4096x32 [0, 2, 1, 3] (shapeCast S2x4096x4x32 (addf (Host.dotGeneral dot_S2x4096x128_S128x128_S2x4096x128_2_0_01_1_n_n none a0 a6)
    (broadcastInDim S2x4096x128 ![0, 1, 2] bcast_S1x1x128_S2x4096x128_0_1_2 (broadcastInDim S1x1x128 ![2] bcast_S128_S1x1x128_2 a7)))
    shapeCasts_S2x4096x128_S2x4096x4x32) transposes_S2x4096x4x32_S2x4x4096x32_0_2_1_3

/-- The keys, or the values, by head. -/
def keys (j : S2x4096x32x128.Idx → Elt F .f32) (w : S128x128.Idx → Elt F .f32) (b : S128.Idx → Elt F .f32) : S2x4x4096x32x32.Idx → Elt F .f32 :=
  transpose S2x4x4096x32x32 [0, 3, 1, 2, 4] (shapeCast S2x4096x32x4x32 (addf (Host.dotGeneral dot_S2x4096x32x128_S128x128_S2x4096x32x128_3_0_012_1_n_n none j w)
    (broadcastInDim S2x4096x32x128 ![0, 1, 2, 3] bcast_S1x1x1x128_S2x4096x32x128_0_1_2_3 (broadcastInDim S1x1x1x128 ![3] bcast_S128_S1x1x1x128_3 b)))
    shapeCasts_S2x4096x32x128_S2x4096x32x4x32) transposes_S2x4096x32x4x32_S2x4x4096x32x32_0_3_1_2_4

/-- The scores. -/
def scores (q : S2x4x4096x32.Idx → Elt F .f32) (k : S2x4x4096x32x32.Idx → Elt F .f32) : S2x4x4096x32.Idx → Elt F .f32 :=
  mulf (Host.dotGeneral dot_S2x4x4096x32_S2x4x4096x32x32_S2x4x4096x32_3_4_n_3_012_012 none q k)
    (broadcastInDim S2x4x4096x32 ![] bcast_S_S2x4x4096x32 (constant S_ .f32 0x3E3504F3#32))

/-- Where a score is masked. -/
def masks (a3 : S2x4096.Idx → Elt F .f32) : S2x4x4096x32.Idx → Elt F .i1 :=
  broadcastInDim S2x4x4096x32 ![0, 1, 2, 3] bcast_S2x1x4096x32_S2x4x4096x32_0_1_2_3
    (cmpf .oeq (mulf (broadcastInDim S2x1x4096x32 ![0, 1, 2, 3] bcast_S2x1x4096x1_S2x1x4096x32_0_1_2_3 (broadcastInDim S2x1x4096x1 ![0, 2] bcast_S2x4096_S2x1x4096x1_0_2 a3))
        (broadcastInDim S2x1x4096x32 ![0, 1, 2, 3] bcast_S2x1x1x32_S2x1x4096x32_0_1_2_3 (broadcastInDim S2x1x1x32 ![0, 3] bcast_S2x32_S2x1x1x32_0_3
          (extractStridedSlice S2x32 ![0, 0] a3 slices_S2x4096_S2x32_0_0))))
      (broadcastInDim S2x1x4096x32 ![] bcast_S_S2x1x4096x32 (constant S_ .f32 0x00000000#32)))

/-- The scores, the masked ones replaced. -/
def masked (c : S2x4x4096x32.Idx → Elt F .i1) (s : S2x4x4096x32.Idx → Elt F .f32) : S2x4x4096x32.Idx → Elt F .f32 :=
  select c (broadcastInDim S2x4x4096x32 ![] bcast_S_S2x4x4096x32 (id (constant S_ .f32 0xCE6E6B28#32))) s

/-- The exponentials of the scores less their largest. -/
def exps (s : S2x4x4096x32.Idx → Elt F .f32) : S2x4x4096x32.Idx → Elt F .f32 :=
  Host.exp (subf s (broadcastInDim S2x4x4096x32 ![0, 1, 2, 3] bcast_S2x4x4096x1_S2x4x4096x32_0_1_2_3
    (broadcastInDim S2x4x4096x1 ![0, 1, 2] bcast_S2x4x4096_S2x4x4096x1_0_1_2
      (maximumf (broadcastInDim S2x4x4096 ![] bcast_S_S2x4x4096 (constant S_ .f32 0xFF800000#32))
        (Host.reduce FloatOps.maximumf s (constant S_ .f32 0xFF800000#32) reducesTo_S2x4x4096x32_S2x4x4096_d3 h_S_)))))

/-- The attention. -/
def attn (e : S2x4x4096x32.Idx → Elt F .f32) : S2x4x4096x32.Idx → Elt F .f32 :=
  Host.divf e (broadcastInDim S2x4x4096x32 ![0, 1, 2, 3] bcast_S2x4x4096x1_S2x4x4096x32_0_1_2_3
    (broadcastInDim S2x4x4096x1 ![0, 1, 2] bcast_S2x4x4096_S2x4x4096x1_0_1_2
      (Host.reduceAdd e (constant S_ .f32 0x00000000#32) reducesTo_S2x4x4096x32_S2x4x4096_d3 h_S_)))

/-- The result, of the attention and the values. -/
def result (p : S2x4x4096x32.Idx → Elt F .f32) (v : S2x4x4096x32x32.Idx → Elt F .f32) (a12 : S128x128.Idx → Elt F .f32)
    (a13 : S128.Idx → Elt F .f32) : S2x4096x128.Idx → Elt F .f32 :=
  addf (Host.dotGeneral dot_S2x4096x128_S128x128_S2x4096x128_2_0_01_1_n_n none (shapeCast S2x4096x128 (transpose S2x4096x4x32 [0, 2, 1, 3]
      (Host.dotGeneral dot_S2x4x4096x32_S2x4x4096x32x32_S2x4x4096x32_3_3_n_4_012_012 none p v) transposes_S2x4x4096x32_S2x4096x4x32_0_2_1_3)
      shapeCasts_S2x4096x4x32_S2x4096x128) a12)
    (broadcastInDim S2x4096x128 ![0, 1, 2] bcast_S1x1x128_S2x4096x128_0_1_2 (broadcastInDim S1x1x128 ![2] bcast_S128_S1x1x128_2 a13))

/-- The whole of it. -/
def out (a0 : S2x4096x128.Idx → Elt F .f32) (a1 : S2x4096x32x16.Idx → Elt F .f32) (a2 : S2x4096x32.Idx → Elt F .i32)
    (a3 : S2x4096.Idx → Elt F .f32) (a4 : S16x128.Idx → Elt F .f32) (a5 : S128.Idx → Elt F .f32) (a6 : S128x128.Idx → Elt F .f32)
    (a7 : S128.Idx → Elt F .f32) (a8 : S128x128.Idx → Elt F .f32) (a9 : S128.Idx → Elt F .f32) (a10 : S128x128.Idx → Elt F .f32)
    (a11 : S128.Idx → Elt F .f32) (a12 : S128x128.Idx → Elt F .f32) (a13 : S128.Idx → Elt F .f32) : S2x4096x128.Idx → Elt F .f32 :=
  result (attn (exps (masked (masks a3) (scores (queries a0 a6 a7) (keys (joined (nbrs a0 a2) a1 a4 a5) a8 a9)))))
    (keys (joined (nbrs a0 a2) a1 a4 a5) a10 a11) a12 a13

theorem res_eq (m : (ℓ : Loc nD τ sig) → Buf (Elt F) ℓ) (c : Dev nD) :
    Cert.ReferenceIdeal.Value.res_main_v69 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13)) := by
  unfold Cert.ReferenceIdeal.Value.res_main_v69
  rfl

end Cert.Proof.Ref

end
-- ==== Proof.RefPoint.lean ====
/-
  The reference's result at an index, over the extended reals, where every index is in range and no entry of the mask is zero.
-/
module

public import proofs.«01_k».proof.Proof.RefTerm
public import proofs.«01_k».proof.Proof.Softmax
public import Idealize.ShloMosaic.Lib.Pointwise

@[expose] public section

noncomputable section

namespace Cert.Proof.Ref

open Cert.ReferenceIdeal Cert.ReferenceIdeal.Gen
open Idealize.ShloMosaic
open Cert.Proof.Softmax (lane head)

/-- The node an index word names. -/
def node (w : BitVec 32) : Fin 4096 := ⟨w.toNat % 4096, Nat.mod_lt _ (by omega)⟩

/-! ### The gathered rows -/

theorem places_zero (a2 : S2x4096x32.Idx → BitVec 32) (b : Fin 2) (l : Fin 4096) (k : Fin 32) :
    places (F := Ideal) a2 (ix4 b l k 0) = BitVec.ofNat 32 b.val := by
  pointwise [places]
  revert b
  decide

theorem places_one (a2 : S2x4096x32.Idx → BitVec 32) (b : Fin 2) (l : Fin 4096) (k : Fin 32) (h : (a2 (ix3 b l k)).toNat < 4096) :
    places (F := Ideal) a2 (ix4 b l k 1) = a2 (ix3 b l k) := by
  have key : ∀ w : BitVec 32, w.toNat < 4096 → IntOp.cmpi .slt w 0#32 = 0#1 := by
    intro w hw
    have : w.slt 0#32 = false := by
      rw [BitVec.slt_eq_decide, decide_eq_false_iff_not, BitVec.toInt_eq_toNat_cond]
      simp only [BitVec.toInt_zero]
      split <;> omega
    simp only [IntOp.cmpi, this]
    rfl
  pointwise [places]
  rw [key _ h]
  rfl

theorem nbrs_apply (a0 : S2x4096x128.Idx → EReal) (a2 : S2x4096x32.Idx → BitVec 32) (b : Fin 2) (l : Fin 4096) (k : Fin 32)
    (x : Fin 128) (h : (a2 (ix3 b l k)).toNat < 4096) :
    nbrs (F := Ideal) a0 a2 (ix4 b l k x) = a0 (ix3 b (node (a2 (ix3 b l k))) x) := by
  unfold nbrs
  generalize hd : gather_S2x4096x128_S2x4096x32x2_S2x4096x32x128_3_01_n_n_01_3_11128 = d
  have hsi0 : ∀ c : Fin d.startIndexMap.length, c.val = 0 → d.siIdx (ix4 b l k x) c = ix4 b l k 0 := by
    subst hd
    intro c hc
    funext i
    apply Fin.ext
    match i with
    | ⟨0, _⟩ => rfl
    | ⟨1, _⟩ => rfl
    | ⟨2, _⟩ => rfl
    | ⟨3, _⟩ => exact hc
  have hsi1 : ∀ c : Fin d.startIndexMap.length, c.val = 1 → d.siIdx (ix4 b l k x) c = ix4 b l k 1 := by
    subst hd
    intro c hc
    funext i
    apply Fin.ext
    match i with
    | ⟨0, _⟩ => rfl
    | ⟨1, _⟩ => rfl
    | ⟨2, _⟩ => rfl
    | ⟨3, _⟩ => exact hc
  have hb : ∀ a, a ∉ d.operandBatchingDims := by subst hd; intro a; exact List.not_mem_nil
  unfold Host.gather
  congr 1
  funext a
  apply Fin.ext
  simp only [GatherDims.operandIdx, GatherDims.batchCoord_eq_zero _ _ _ (hb _), Nat.add_zero]
  match a with
  | ⟨0, _⟩ =>
    have hm : (⟨0, by decide⟩ : Fin S2x4096x128.rank) ∈ d.startIndexMap := by subst hd; decide
    have hk : (⟨0, by decide⟩ : Fin S2x4096x128.rank) ∉ d.sKept := by subst hd; decide
    have hs : d.sliceSizes ⟨0, by decide⟩ = 1 := by subst hd; rfl
    rw [GatherDims.offCoord_eq_zero _ _ _ hk, GatherDims.start, dif_pos hm, hsi0 _ (by subst hd; rfl), places_zero, hs]
    have h01 : ∀ b : Fin 2, min (BitVec.ofNat 32 b.val).toInt.toNat (2 - 1) + 0 = b.val := by decide
    exact h01 b
  | ⟨1, _⟩ =>
    have hm : (⟨1, by decide⟩ : Fin S2x4096x128.rank) ∈ d.startIndexMap := by subst hd; decide
    have hk : (⟨1, by decide⟩ : Fin S2x4096x128.rank) ∉ d.sKept := by subst hd; decide
    have hs : d.sliceSizes ⟨1, by decide⟩ = 1 := by subst hd; rfl
    rw [GatherDims.offCoord_eq_zero _ _ _ hk, GatherDims.start, dif_pos hm, hsi1 _ (by subst hd; rfl), places_one _ _ _ _ h, hs]
    have : (a2 (ix3 b l k)).toInt.toNat = (a2 (ix3 b l k)).toNat := by
      rw [BitVec.toInt_eq_toNat_cond]; split <;> omega
    rw [this]
    show min _ (4096 - 1) + 0 = (a2 (ix3 b l k)).toNat % 4096
    omega
  | ⟨2, _⟩ =>
    have hm : (⟨2, by decide⟩ : Fin S2x4096x128.rank) ∉ d.startIndexMap := by subst hd; decide
    have hk : (⟨2, by decide⟩ : Fin S2x4096x128.rank) ∈ d.sKept := by subst hd; decide
    rw [GatherDims.start, dif_neg hm, GatherDims.offCoord, dif_pos hk, Nat.zero_add]
    subst hd
    rfl

/-! ### The stages -/

theorem joined_apply (g : S2x4096x32x128.Idx → EReal) (a1 : S2x4096x32x16.Idx → EReal) (a4 : S16x128.Idx → EReal) (a5 : S128.Idx → EReal)
    (b : Fin 2) (l : Fin 4096) (k : Fin 32) (d : Fin 128) :
    joined (F := Ideal) g a1 a4 a5 (ix4 b l k d) = g (ix4 b l k d) + (∑ e, a1 (ix4 b l k e) * a4 (ix2 e d) + a5 (ix1 d)) := by
  pointwise [joined]

theorem queries_apply (a0 : S2x4096x128.Idx → EReal) (a6 : S128x128.Idx → EReal) (a7 : S128.Idx → EReal)
    (b : Fin 2) (h : Fin 4) (l : Fin 4096) (e : Fin 32) :
    queries (F := Ideal) a0 a6 a7 (ix4 b h l e) = ∑ x, a0 (ix3 b l x) * a6 (ix2 x (lane h e)) + a7 (ix1 (lane h e)) := by
  pointwise [queries]
  rfl

theorem keys_apply (g : S2x4096x32x128.Idx → EReal) (w : S128x128.Idx → EReal) (v : S128.Idx → EReal)
    (b : Fin 2) (h : Fin 4) (l : Fin 4096) (k e : Fin 32) :
    keys (F := Ideal) g w v (ix5 b h l k e) = ∑ x, g (ix4 b l k x) * w (ix2 x (lane h e)) + v (ix1 (lane h e)) := by
  pointwise [keys]
  rfl

theorem scores_apply (q : S2x4x4096x32.Idx → EReal) (ks : S2x4x4096x32x32.Idx → EReal) (b : Fin 2) (h : Fin 4) (l : Fin 4096) (k : Fin 32) :
    scores (F := Ideal) q ks (ix4 b h l k) = (∑ e, q (ix4 b h l e) * ks (ix5 b h l k e)) * Ideal.ofBits FTy.f32 0x3E3504F3#32 := by
  pointwise [scores]

theorem masks_apply (a3 : S2x4096.Idx → EReal) (h3 : ∀ j, a3 j ≠ 0) (b : Fin 2) (h : Fin 4) (l : Fin 4096) (k : Fin 32) :
    masks (F := Ideal) a3 (ix4 b h l k) = 0#1 := by
  pointwise [masks]
  rw [decide_eq_false (mul_ne_zero (h3 _) (h3 _))]
  rfl

theorem masked_apply (c : S2x4x4096x32.Idx → BitVec 1) (q : S2x4x4096x32.Idx → EReal) (b : Fin 2) (h : Fin 4) (l : Fin 4096) (k : Fin 32)
    (hc : c (ix4 b h l k) = 0#1) : masked (F := Ideal) c q (ix4 b h l k) = q (ix4 b h l k) := by
  pointwise [masked]
  rw [hc]
  rfl

theorem exps_apply (q : S2x4x4096x32.Idx → EReal) (b : Fin 2) (h : Fin 4) (l : Fin 4096) (k : Fin 32) :
    exps (F := Ideal) q (ix4 b h l k) = Softmax.refE (fun k => q (ix4 b h l k)) k := by
  have hb : Ideal.ofBits .f32 0xFF800000#32 = ⊥ := by simp [Ideal.ofBits, Ideal.ieee]
  pointwise [exps]
  rw [hb]
  rfl

theorem attn_apply (q : S2x4x4096x32.Idx → EReal) (b : Fin 2) (h : Fin 4) (l : Fin 4096) (k : Fin 32) :
    attn (F := Ideal) q (ix4 b h l k) = Ideal.div (q (ix4 b h l k)) (∑ x, q (ix4 b h l x)) := by
  pointwise [attn]

theorem result_apply (p : S2x4x4096x32.Idx → EReal) (v : S2x4x4096x32x32.Idx → EReal) (a12 : S128x128.Idx → EReal) (a13 : S128.Idx → EReal)
    (b : Fin 2) (l : Fin 4096) (c : Fin 128) :
    result (F := Ideal) p v a12 a13 (ix3 b l c)
      = ∑ x, (∑ k, p (ix4 b (head x) l k) * v (ix5 b (head x) l k (⟨x.val % 32, by omega⟩ : Fin 32))) * a12 (ix2 x c) + a13 (ix1 c) := by
  pointwise [result]
  rfl

/-- A lane is the lane of its head. -/
theorem lane_head (x : Fin 128) : lane (head x) (⟨x.val % 32, by omega⟩ : Fin 32) = x := by
  apply Fin.ext
  simp only [lane, head]
  omega

/-- The reference's result. -/
theorem out_apply (a0 : S2x4096x128.Idx → EReal) (a1 : S2x4096x32x16.Idx → EReal) (a2 : S2x4096x32.Idx → BitVec 32) (a3 : S2x4096.Idx → EReal)
    (a4 : S16x128.Idx → EReal) (a5 : S128.Idx → EReal) (a6 : S128x128.Idx → EReal) (a7 : S128.Idx → EReal) (a8 : S128x128.Idx → EReal)
    (a9 : S128.Idx → EReal) (a10 : S128x128.Idx → EReal) (a11 : S128.Idx → EReal) (a12 : S128x128.Idx → EReal) (a13 : S128.Idx → EReal)
    (h2 : ∀ j, (a2 j).toNat < 4096) (h3 : ∀ j, a3 j ≠ 0) (b : Fin 2) (l : Fin 4096) (c : Fin 128) :
    out (F := Ideal) a0 a1 a2 a3 a4 a5 a6 a7 a8 a9 a10 a11 a12 a13 (ix3 b l c)
      = ∑ x, Softmax.refO (Ideal.ofBits FTy.f32 0x3E3504F3#32) (fun k x => a0 (ix3 b (node (a2 (ix3 b l k))) x)) (fun x => a0 (ix3 b l x))
          (fun k e => a1 (ix4 b l k e)) (fun e x => a4 (ix2 e x)) (fun x => a5 (ix1 x)) (fun x d => a6 (ix2 x d)) (fun d => a7 (ix1 d))
          (fun x d => a8 (ix2 x d)) (fun d => a9 (ix1 d)) (fun x d => a10 (ix2 x d)) (fun d => a11 (ix1 d)) x * a12 (ix2 x c) + a13 (ix1 c) := by
  have hs : ∀ h k, masked (F := Ideal) (masks (F := Ideal) a3) (scores (F := Ideal) (queries (F := Ideal) a0 a6 a7)
      (keys (F := Ideal) (joined (F := Ideal) (nbrs (F := Ideal) a0 a2) a1 a4 a5) a8 a9)) (ix4 b h l k)
      = Softmax.refS (Ideal.ofBits FTy.f32 0x3E3504F3#32) (fun k x => a0 (ix3 b (node (a2 (ix3 b l k))) x)) (fun x => a0 (ix3 b l x))
          (fun k e => a1 (ix4 b l k e)) (fun e x => a4 (ix2 e x)) (fun x => a5 (ix1 x)) (fun x d => a6 (ix2 x d)) (fun d => a7 (ix1 d))
          (fun x d => a8 (ix2 x d)) (fun d => a9 (ix1 d)) h k := by
    intro h k
    rw [masked_apply _ _ _ _ _ _ (masks_apply a3 h3 b h l k), scores_apply]
    simp only [queries_apply, keys_apply, joined_apply, nbrs_apply _ _ _ _ _ _ (h2 _)]
    rfl
  rw [out, result_apply]
  simp only [attn_apply, exps_apply, hs, keys_apply, lane_head, joined_apply, nbrs_apply _ _ _ _ _ _ (h2 _)]
  rfl

end Cert.Proof.Ref

end
-- ==== Proof.KerResult.lean ====
/-
  The program's result at an index, over the extended reals, where every index is in range.
-/
module

public import proofs.«01_k».proof.Proof.Result
public import proofs.«01_k».proof.Proof.KerPoint
public import proofs.«01_k».proof.Proof.RefPoint

@[expose] public section

noncomputable section

namespace Cert.Proof.Sc

open Cert.KernelIdeal Cert.KernelIdeal.Gen
open Idealize.ShloMosaic
open Cert.Proof.Softmax (kerO)
open Cert.Proof.Ref (node)

/-! ### Where node `l` of batch `b` and its neighbours lie -/

/-- The node's row of the table, -/
def rowT (b : Fin 2) (l : Fin 4096) : Fin 8192 := ⟨b.val * 4096 + l.val, by omega⟩
/-- and its neighbour `k`'s row of the gathered array. -/
def rowG (b : Fin 2) (l : Fin 4096) (k : Fin 32) : Fin 262144 := ⟨(b.val * 4096 + l.val) * 32 + k.val, by omega⟩

theorem table_at (a : S2x4096x128.Idx → EReal) (b : Fin 2) (l : Fin 4096) (x : Fin 128) :
    shapeCast S8192x128 a shapeCasts_S2x4096x128_S8192x128 (ix2 (rowT b l) x) = a (ix3 b l x) := by
  have hb : (⟨(rowT b l).val / 4096, by omega⟩ : Fin 2) = b := Fin.ext (by simp only [rowT]; omega)
  have hl : (⟨(rowT b l).val % 4096, by omega⟩ : Fin 4096) = l := Fin.ext (by simp only [rowT]; omega)
  rw [table_apply, hb, hl]

theorem words_at (a : S2x4096x32.Idx → BitVec 32) (b : Fin 2) (l : Fin 4096) (k : Fin 32) :
    idxWords (F := Ideal) a (ix1 (rowG b l k)) = a (ix3 b l k) + BitVec.ofNat 32 b.val * 4096#32 := by
  have eb : (rowG b l k).val / 131072 = b.val := by simp only [rowG]; omega
  have hb : (⟨(rowG b l k).val / 131072, by omega⟩ : Fin 2) = b := Fin.ext eb
  have hl : (⟨(rowG b l k).val / 32 % 4096, by omega⟩ : Fin 4096) = l := Fin.ext (by simp only [rowG]; omega)
  have hk : (⟨(rowG b l k).val % 32, by omega⟩ : Fin 32) = k := Fin.ext (by simp only [rowG]; omega)
  rw [idxWords_apply, hb, hl, hk, eb]

theorem edges_apply (a : S2x4096x32x16.Idx → EReal) (x : Fin 262144) (y : Fin 16) :
    shapeCast S262144x16 a shapeCasts_S2x4096x32x16_S262144x16 (ix2 x y)
      = a (ix4 (⟨x.val / 131072, by omega⟩ : Fin 2) (⟨x.val / 32 % 4096, by omega⟩ : Fin 4096) (⟨x.val % 32, by omega⟩ : Fin 32) y) := by
  pointwise

theorem edges_at (a : S2x4096x32x16.Idx → EReal) (b : Fin 2) (l : Fin 4096) (k : Fin 32) (y : Fin 16) :
    shapeCast S262144x16 a shapeCasts_S2x4096x32x16_S262144x16 (ix2 (rowG b l k) y) = a (ix4 b l k y) := by
  have hb : (⟨(rowG b l k).val / 131072, by omega⟩ : Fin 2) = b := Fin.ext (by simp only [rowG]; omega)
  have hl : (⟨(rowG b l k).val / 32 % 4096, by omega⟩ : Fin 4096) = l := Fin.ext (by simp only [rowG]; omega)
  have hk : (⟨(rowG b l k).val % 32, by omega⟩ : Fin 32) = k := Fin.ext (by simp only [rowG]; omega)
  rw [edges_apply, hb, hl, hk]

theorem bias_apply (a : S128.Idx → EReal) (c : Fin 128) :
    shapeCast S1x128 a shapeCasts_S128_S1x128 (ix2 0 c) = a (ix1 c) := by
  pointwise

/-- The gathered array's row of neighbour `k` is the node the index names. -/
theorem gath_at (a0 : S2x4096x128.Idx → EReal) (a2 : S2x4096x32.Idx → BitVec 32) (b : Fin 2) (l : Fin 4096) (k : Fin 32) (x : Fin 128)
    (h : (a2 (ix3 b l k)).toNat < 4096) :
    gath (F := Ideal) (shapeCast S8192x128 a0 shapeCasts_S2x4096x128_S8192x128) (idxWords (F := Ideal) a2) (ix2 (rowG b l k) x)
      = a0 (ix3 b (node (a2 (ix3 b l k))) x) := by
  have hw : ∀ (w : BitVec 32) (b : Fin 2), w.toNat < 4096 → (w + BitVec.ofNat 32 b.val * 4096#32).toNat = b.val * 4096 + w.toNat := by
    intro w b hw
    have hb' : b = 0 ∨ b = 1 := by omega
    rcases hb' with rfl | rfl
    · simp only [BitVec.toNat_add, BitVec.toNat_mul, BitVec.toNat_ofNat, Fin.val_zero]; omega
    · simp only [BitVec.toNat_add, BitVec.toNat_mul, BitVec.toNat_ofNat, Fin.val_one]; omega
  have e : (⟨(idxWords (F := Ideal) a2 (ix1 (rowG b l k))).toNat % 8192, Nat.mod_lt _ (by omega)⟩ : Fin 8192)
      = rowT b (node (a2 (ix3 b l k))) := by
    apply Fin.ext
    show (idxWords (F := Ideal) a2 (ix1 (rowG b l k))).toNat % 8192 = b.val * 4096 + (a2 (ix3 b l k)).toNat % 4096
    rw [words_at, hw _ _ h]
    omega
  show shapeCast S8192x128 a0 shapeCasts_S2x4096x128_S8192x128
    (ix2 (⟨(idxWords (F := Ideal) a2 (ix1 (rowG b l k))).toNat % 8192, Nat.mod_lt _ (by omega)⟩ : Fin 8192) x) = _
  rw [e, table_at]

/-! ### The result -/

variable (m : (ℓ : Loc nD τ sig) → Buf (Elt Ideal) ℓ) (d : Dev nD)

/-- An argument's contents at the start. -/
abbrev arg (r : Ref sig .tc) : Buf (Elt Ideal) ((d, Proc.devRef .tc r) : Loc nD τ sig) := m (d, Proc.devRef .tc r)

theorem rowG_eq (b : Fin 2) (l : Fin 4096) (k : Fin 32) (p) :
    (⟨(pointOf (rowT b l)).val * 16384 + (rowOf (rowIn (rowT b l)) k).val, p⟩ : Fin 262144) = rowG b l k := by
  apply Fin.ext
  show (b.val * 4096 + l.val) / 512 * 16384 + ((b.val * 4096 + l.val) % 512 * 32 + k.val) = (b.val * 4096 + l.val) * 32 + k.val
  omega

theorem rowT_eq (b : Fin 2) (l : Fin 4096) (p) :
    (⟨(pointOf (rowT b l)).val * 512 + (rowIn (rowT b l)).val, p⟩ : Fin 8192) = rowT b l := by
  apply Fin.ext
  show (b.val * 4096 + l.val) / 512 * 512 + (b.val * 4096 + l.val) % 512 = b.val * 4096 + l.val
  omega

theorem nbr_block (h : ∀ j, (arg m d main_arg2 j).toNat < 4096) (b : Fin 2) (l : Fin 4096) (k : Fin 32) (x : Fin 128) :
    iblk (V2 m) d 0 (pointOf (rowT b l)) (ix2 (rowOf (rowIn (rowT b l)) k) x)
      = arg m d main_arg0 (ix3 b (node (arg m d main_arg2 (ix3 b l k))) x) := by
  rw [iblk_0, rowG_eq]
  have e : V2 m d (Proc.devRef .tc main_v26) = gath (V1 m d rX) (V1 m d rI) := V2_rO m d
  have eX : V1 m d rX = _ := V1_v0 m d
  have eI : V1 m d rI = _ := V1_v7 m d
  rw [e, eX, eI]
  exact gath_at _ _ b l k x (h _)

theorem edge_block (b : Fin 2) (l : Fin 4096) (k : Fin 32) (y : Fin 16) :
    iblk (V2 m) d 1 (pointOf (rowT b l)) (ix2 (rowOf (rowIn (rowT b l)) k) y) = arg m d main_arg1 (ix4 b l k y) := by
  rw [iblk_1, rowG_eq, V2_of_ne m d (by decide), V1_v8]
  exact edges_at _ b l k y

theorem node_block (b : Fin 2) (l : Fin 4096) (x : Fin 128) :
    iblk (V2 m) d 2 (pointOf (rowT b l)) (ix2 (rowIn (rowT b l)) x) = arg m d main_arg0 (ix3 b l x) := by
  rw [iblk_2, rowT_eq, V2_of_ne m d (by decide), V1_v0]
  exact table_at _ b l x

/-- The program's result. -/
theorem kernel_apply (h : ∀ j, (arg m d main_arg2 j).toNat < 4096) (b : Fin 2) (l : Fin 4096) (c : Fin 128) :
    V4 m d (Proc.devRef .tc main_v28) (ix3 b l c)
      = ∑ x, kerO scale (fun k x => arg m d main_arg0 (ix3 b (node (arg m d main_arg2 (ix3 b l k))) x))
          (fun x => arg m d main_arg0 (ix3 b l x)) (fun k y => arg m d main_arg1 (ix4 b l k y)) (fun y x => arg m d main_arg4 (ix2 y x))
          (fun x => arg m d main_arg5 (ix1 x)) (fun x d' => arg m d main_arg6 (ix2 x d')) (fun d' => arg m d main_arg7 (ix1 d'))
          (fun x d' => arg m d main_arg8 (ix2 x d')) (fun d' => arg m d main_arg9 (ix1 d')) (fun x d' => arg m d main_arg10 (ix2 x d'))
          (fun d' => arg m d main_arg11 (ix1 d')) x * arg m d main_arg12 (ix2 x c) + arg m d main_arg13 (ix1 c) := by
  rw [V4_v28 m d b l c (rowT b l) rfl, outAt, iblk_3, iblk_4, iblk_5, iblk_6, iblk_7, iblk_8,
    V2_of_ne m d (by decide), V2_of_ne m d (by decide), V2_of_ne m d (by decide), V2_of_ne m d (by decide), V2_of_ne m d (by decide),
    V2_of_ne m d (by decide), V1_v12, V1_v17, V1_v20, V1_v23, V1_v24, V1_v25]
  refine (outBlk_apply _ _ _ _ _ _ _ _ _ _ _ _ _ _ _).trans ?_
  rw [bias_apply]
  simp only [nbr_block m d h, edge_block, node_block]
  rfl

end Cert.Proof.Sc

end
-- ==== Proof.SameText.lean ====
/-
  The idealization rewrites nothing, so the program as it is and its idealization are the same text: their procedures and
  their threads are equal.
-/
module

public import proofs.«01_k».proof.Proof.Gen.Kernel
public import proofs.«01_k».proof.Proof.Gen.KernelIdeal

@[expose] public section

noncomputable section

namespace Cert.Proof.Same

open Idealize.ShloMosaic

variable {F : FTy → Type} [FloatOps F]

set_option maxHeartbeats 400000

/-- The kernels' bodies, kernel by kernel. -/
theorem bodies_eq : @Cert.Kernel.defs₀ F _ Cert.Kernel.Gen.facts = @Cert.KernelIdeal.defs₀ F _ Cert.KernelIdeal.Gen.facts := by
  funext p l a
  match p, l, a with
  | .scVector c s, 0, a => rfl
  | .scVector c s, 1, a => rfl
  | .tc, 0, a => rfl
  | .tc, 1, a => rfl
  | .scScalar c, 0, a => rfl
  | .scScalar c, 1, a => rfl

theorem defs_eq : @Cert.Kernel.defs F _ Cert.Kernel.Gen.facts = @Cert.KernelIdeal.defs F _ Cert.KernelIdeal.Gen.facts :=
  congrArg (fun d => (Cert.Kernel.sc (F := F)).defs (Pipeline.defs Cert.Kernel.pcfgs d)) bodies_eq

theorem threads_eq : @Cert.Kernel.threads F _ Cert.Kernel.Gen.facts = @Cert.KernelIdeal.threads F _ Cert.KernelIdeal.Gen.facts := rfl

end Cert.Proof.Same

end
-- ==== Proof.Launch.lean ====
/-
  The whole program's run: the operations before the SparseCore call, the call, the TensorCore kernel, the last reshape;
  at the end every buffer outside the kernels' scopes holds what `V4` says and every semaphore is at zero.
-/
module

public import proofs.«01_k».proof.Proof.Host

@[expose] public section

noncomputable section

namespace Cert.Proof.Sc

open Cert.KernelIdeal Cert.KernelIdeal.Gen

open Idealize.ShloMosaic Idealize.ShloMosaic.TcCoe
open Idealize.ShloMosaic.SparseCore.Cfg (HIx)
open Idealize.ShloMosaic.Pipeline (ucRefs afterRegion)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Where the pipeline's own algebra sits. -/
abbrev EP : Emb UP (MT nD τ sig (HIx 1) (Elt F) ℕ UU ℕ) := (Emb.inl : Emb UP (UP × Counters)).trans embR

variable (m : (ℓ : Loc nD τ sig) → Buf (Elt F) ℓ) (ρ : Dev nD → PrngReg)

/-- What the handshakes of the SparseCore call carry in this run. -/
abbrev PV : (K (F := F)).Pay (nD := nD) (Val := Elt F) (Name := ℕ) (U := UU) :=
  P (fun d => V1 m d rX) (fun d => V1 m d rI) (fun d => V1 m d rO)

/-! ## The operations stay among the unscoped buffers -/

theorem hostOps_sub : ∀ op ∈ hostOps (F := F), op.bufs ⊆ ucRefs τ sig := by
  intro op hop
  refine Pipeline.sub_ucRefs op ?_
  revert op
  rw [← List.forall_iff_forall_mem]
  simp only [hostOps, List.Forall, StableHlo.reshape_bufs_sub, StableHlo.nullary_bufs_sub, StableHlo.unary_bufs_sub, StableHlo.binary_bufs_sub, and_self]

theorem hostOps_fresh : ∀ op ∈ hostOps (F := F), op.fresh = ∅ := by
  rw [← List.forall_iff_forall_mem]
  unfold hostOps
  repeat' constructor

/-! ## The SparseCore call among the unscoped buffers -/

/-- The table, the index list and the gathered array. -/
def callRefs : Finset (DevRef τ sig) := {rX, rI, rO}

theorem callRefs_sub : callRefs ⊆ ucRefs τ sig := by decide

theorem held_call (d : Dev nD) (W : Valuation τ sig (Elt F)) : (StableHlo.held (SparseCore.T d) callRefs W : sProp 𝕄)
    = iprop((xLoc d ↦{fullShare} W rX) ∗ (iLoc d ↦{fullShare} W rI) ∗ (oLoc d ↦{fullShare} W rO)) := by
  unfold StableHlo.held callRefs
  rw [SparseCore.bigSep_insert' (by decide), SparseCore.bigSep_insert' (by decide), bigSep_singleton]

theorem held_V1 (d : Dev nD) : (StableHlo.held (SparseCore.T d) (ucRefs τ sig) (V1 m d) : sProp 𝕄)
    = iprop(((xLoc d ↦{fullShare} V1 m d rX) ∗ (iLoc d ↦{fullShare} V1 m d rI) ∗ (oLoc d ↦{fullShare} V1 m d rO))
        ∗ StableHlo.held (SparseCore.T d) (ucRefs τ sig \ callRefs) (V1 m d)) := by
  rw [StableHlo.held_sub_split (SparseCore.T d) callRefs_sub, held_call]

theorem held_V2 (d : Dev nD) : (StableHlo.held (SparseCore.T d) (ucRefs τ sig) (V2 m d) : sProp 𝕄)
    = iprop(((xLoc d ↦{fullShare} V1 m d rX) ∗ (iLoc d ↦{fullShare} V1 m d rI) ∗ (oLoc d ↦{fullShare} gath (V1 m d rX) (V1 m d rI)))
        ∗ StableHlo.held (SparseCore.T d) (ucRefs τ sig \ callRefs) (V1 m d)) := by
  rw [StableHlo.held_sub_split (SparseCore.T d) callRefs_sub, held_call,
    StableHlo.held_congr (SparseCore.T d) (S := ucRefs τ sig \ callRefs) (V := V2 m d) (V' := V1 m d) (fun b hb => by
      unfold V2; rw [Function.update_of_ne]
      rintro rfl; exact (Finset.mem_sdiff.mp hb).2 (by decide))]
  rw [show V2 m d rX = V1 m d rX from Function.update_of_ne (by decide) _ _,
    show V2 m d rI = V1 m d rI from Function.update_of_ne (by decide) _ _,
    show V2 m d rO = gath (V1 m d rX) (V1 m d rI) from Function.update_self _ _ _]

/-! ## The launch element -/

def u₀ : UU := (initOf (K (F := F)).hsCells (K (F := F)).hsToks,
  (initOf (Pipeline.cells cfgs cellOf_inj) (Pipeline.launchToks cfgs cellOf_inj), 1))

/-- A device's share of the pipeline's ghost state. -/
abbrev GP (d : Dev nD) : sProp 𝕄 :=
  iprop(Pipeline.cellsGhost (Pipeline.pin (pcfgs (F := F)) admP) EP 0 d ∗ Pipeline.toksInit (Pipeline.pin (pcfgs (F := F)) admP) EP 0 d)

set_option backward.isDefEq.respectTransparency.types false in
theorem ghost_pipeline : (BI.own ((EP (F := F)) (initOf (Pipeline.cells cfgs cellOf_inj) (Pipeline.launchToks cfgs cellOf_inj))) : sProp 𝕄)
    ⊢ |={Set.univ}=> bigSep Finset.univ fun d : Dev nD => GP (F := F) d := by
  have h := Pipeline.fund_ghost (nD := nD) (τ := τ) (Pipeline.pin (pcfgs (F := F)) admP) (Lvl := ℕ) (Ix := HIx 1) (Name := ℕ) (U := UU) (EP (F := F)) cellOf_inj
  iintro H
  imod h $$ H with ⟨Hc, Ht⟩
  imodintro
  rw [bigSep_sep']
  isplitl [Hc]
  · iapply (Entails.of_eq (bigSep_congr fun d _ => bigSep_univ_of_subsingleton (0 : Fin 1))) $$ Hc
  · iapply (Entails.of_eq (bigSep_congr fun d _ => bigSep_univ_of_subsingleton (0 : Fin 1))) $$ Ht

theorem hu₀ : (ownU (u₀ (F := F)) : sProp 𝕄)
    ⊢ |={Set.univ}=> iprop(BI.own (EH (initOf (K (F := F)).hsCells (K (F := F)).hsToks)) ∗ (bigSep Finset.univ fun d : Dev nD => GP (F := F) d)
        ∗ bigSep Finset.univ fun thr : Thread nD τ => bigSep Finset.univ fun q : Fin 1 => (PV m).x q thr) := by
  unfold u₀
  iintro Hu
  ihave H := (ownU_pair _ _) $$ Hu
  icases H with ⟨HH, HR⟩
  ihave H := (own_pair_emb embR _ _) $$ HR
  icases H with ⟨HP, -⟩
  imod ghost_pipeline $$ HP with HG
  imodintro
  isplitl [HH]; · iexact HH
  isplitl [HG]; · iexact HG
  have hx : (bigSep Finset.univ fun thr : Thread nD τ => bigSep Finset.univ fun q : Fin 1 => (PV (F := F) m).x q thr) = (iprop(emp) : sProp 𝕄) :=
    (bigSep_congr fun _ _ => bigSep_univ_of_subsingleton (0 : Fin 1)).trans (bigSep_emp_const _)
  iapply (Entails.of_eq hx.symm)
  iempintro

/-! ## The TensorCore's program -/

/-- What a device's TensorCore ends with. -/
abbrev FIN (d : Dev nD) : sProp 𝕄 := StableHlo.held (SparseCore.T d) (ucRefs τ sig) (V4 m d)

set_option backward.isDefEq.respectTransparency.types false in
/-- The TensorCore kernel's region, run where the program runs it. -/
theorem wp_region [∀ e, Nonempty (Elt F e)] (d : Dev nD) (Φ : PUnit → sProp 𝕄) :
    iprop((iprop(boundary (SparseCore.T d) ∗ StableHlo.held (SparseCore.T d) (ucRefs τ sig) (V3 m d) ∗ idle d) -∗ Φ ⟨⟩)
        ∗ boundary (SparseCore.T d) ∗ (StableHlo.held (SparseCore.T d) (ucRefs τ sig) (V2 m d) ∗ idle d)
        ∗ levAts (K (F := F)).L (K (F := F)).lev ∗ GP (F := F) d)
      ⊢ wp frame (wpE ((K (F := F)).defs (D (F := F))) 𝒱 (SparseCore.T d) none) Set.univ
          (Prog.lift (.customCall (SparseCore.inner (Pipeline.entry 0)) ())) Φ := by
  have h := Pipeline.RegionSeg.wp (pcfgs (F := F)) admP (dats (V2 m)) none cellOf_inj (EP (F := F)) defs₀ 𝒱₀ (K (F := F)).L (K (F := F)).lev
    (region (V2 m)) d none (fun u hu => absurd hu (Option.not_mem_none u)) (.ret ·) Φ
  rw [region_pre, region_post] at h
  have e : (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) (.ret ·)) := rfl
  rw [e]
  refine BI.Entails.trans ?_ ((K (F := F)).wp_liftProg (D (F := F)) 𝒱 (SparseCore.T d) Set.univ none (.op (.customCall (Pipeline.entry 0) ()) (.ret ·)) Φ)
  refine BI.Entails.trans ?_ h
  rw [wp_ret]
  unfold V3
  show (_ ⊢ (_ : sProp 𝕄))
  iintro ⟨Hk, Hb, Hpre, Hl, Hg⟩
  isplitl [Hk]
  · iintro H
    imodintro
    iapply Hk
    iexact H
  isplitl [Hb]; · iexact Hb
  isplitl [Hpre]; · iexact Hpre
  isplitl [Hl]; · iexact Hl
  iexact Hg

theorem hmain [∀ e, Nonempty (Elt F e)] (κ : GSem nD τ sig → ℕ) (d : Dev nD) :
    iprop((K (F := F)).ctx EH (PV m) κ ∗ (K (F := F)).tcSt EH d 0 ∗ (K (F := F)).tcRes m ρ d ∗ GP (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) (ucRefs τ sig) (V0 m d) from
    Pipeline.unscopedBufs_held d (V0 m d), main_eq]
  iintro ⟨#Hctx, Hst, ⟨Hb, Hh, Hts, -⟩, Hg⟩
  ihave #Hlev := ((K (F := F)).ctx_levAts κ) $$ Hctx
  iapply (StableHlo.wp_seq 𝒱 none Set.univ d (ucRefs τ sig) _ hostOps hostOps_sub hostOps_fresh (V0 m d)) $$ [Hb Hh]
  · isplitl [Hb] <;> iassumption
  iintro ⟨Hb, Hh⟩
  ihave Hh := (show (StableHlo.held d.tc (ucRefs τ sig) (StableHlo.after hostOps (V0 m d)) : sProp 𝕄) ⊢ _ from Entails.of_eq (held_V1 m d)) $$ Hh
  icases Hh with ⟨Hc, Hh⟩
  rw [wp_bind]
  iapply ((K (F := F)).wp_run (D (F := F)) 𝒱 (EH := EH) (P := PV m) κ d 0) $$ [Hst Hc Hb Hh Hts Hg]
  isplitr; · iexact Hctx
  isplitl [Hst]; · iexact Hst
  isplitl [Hc]
  · iapply (Entails.of_eq (st_eq (fun d => V1 m d rX) (fun d => V1 m d rI) (fun d => V1 m d rO) d).symm)
    iexact Hc
  iintro ⟨Hst, Hdn⟩
  ihave Hdn := (Entails.of_eq (dn_eq (fun d => V1 m d rX) (fun d => V1 m d rI) (fun d => V1 m d rO) d)) $$ Hdn
  ihave Hh := (Entails.of_eq (held_V2 m d).symm) $$ [Hdn Hh]
  · isplitl [Hdn] <;> iassumption
  unfold SparseCore.Cfg.tcSt
  icases Hst with ⟨⟨%W, %hW, HO⟩, Hrest⟩
  rw [wp_bind]
  iapply (wp_region m d)
  isplitl [Hrest Hts]; swap
  · isplitl [Hb]; · iexact Hb
    isplitl [Hh HO]
    · isplitl [Hh]; · iexact Hh
      iexists W; isplitr; · ipureintro; exact hW
      iapply (Entails.of_eq (congrArg (fun O => owes (SparseCore.T d) O W) ((K (F := F)).Otc_end (N := 1) d (n := 1) le_rfl)))
      iexact HO
    isplitr; · iexact Hlev
    iexact Hg
  iintro ⟨Hb, Hh, ⟨%W', %hW', HO⟩⟩
  rw [← bind_pure (StableHlo.seq [lastOp])]
  iapply (StableHlo.wp_seq 𝒱 none Set.univ d (ucRefs τ sig) _ [lastOp] ?_ ?_ (V3 m d)) $$ [Hb Hh]
  · intro op hop
    rw [List.mem_singleton] at hop
    subst hop
    exact Pipeline.sub_ucRefs _ (StableHlo.reshape_bufs_sub _ _ _ _ _ _)
  · intro op hop
    rw [List.mem_singleton] at hop
    subst hop
    rfl
  · isplitl [Hb] <;> iassumption
  iintro ⟨Hb, Hh⟩
  simp only [wp_pure]
  imodintro
  isplitl [HO Hrest]
  · isplitl [HO]
    · iexists W'; isplitr; · ipureintro; exact hW'
      iapply (Entails.of_eq (congrArg (fun O => owes (SparseCore.T d) O W') ((K (F := F)).Otc_end (N := 1) d (n := 1) le_rfl)).symm)
      iexact HO
    iexact Hrest
  isplitl [Hh]; · iexact Hh
  isplitl [Hb] <;> iassumption

/-! ## The run -/

/-- Every unscoped buffer of `d` is at `V4`. -/
def fq (d : Dev nD) (s' : Phys nD τ sig (Elt F)) : Prop := ∀ b ∈ ucRefs τ sig, s'.mem.mem (d, b) = V4 m d b

theorem hfin (d : Dev nD) (s' : Phys nD τ sig (Elt F)) : iprop(FIN m d ∗ SI s') ⊢ (⌜fq m d s'⌝ : sProp 𝕄) := by
  have key : ∀ b ∈ ucRefs τ sig, iprop(FIN m d ∗ SI s') ⊢ (⌜s'.mem.mem (d, b) = V4 m d b⌝ : sProp 𝕄) := by
    intro b hb
    have he : (StableHlo.held (SparseCore.T d) (ucRefs τ sig) (V4 m d) : sProp 𝕄) ⊢ ((d, b) ↦{fullShare} V4 m d b) := bigSep_elim hb
    iintro ⟨Hh, HSI⟩
    ihave Hi := he $$ Hh
    ihave H := (SI_pointsTo_agree (st := s') (ℓ := (d, b)) (I := Finset.univ) (q := fullShare) (f := V4 m d b)) $$ [HSI Hi]
    · isplitl [HSI] <;> iassumption
    icases H with %h
    ipureintro
    exact funext fun i => h i (Finset.mem_univ i)
  exact fun x hx b hb => key b hb x hx

theorem run_main [∀ e, Nonempty (Elt F e)] (hlt : ∀ d x, (V1 m d rI x).toNat < 8192) :
    θ_run (Cert.KernelIdeal.defs (F := F)) (Cert.KernelIdeal.threads (F := F)) ⟨m, fun _ => 0, ρ⟩
      (fun r => (∀ d, ∀ b ∈ ucRefs τ sig, r.2.mem (d, b) = V4 m d b) ∧ r.2.sem = fun _ => 0) :=
  SparseCore.Cfg.θ_run_sc_quiescent (K := K (F := F)) (D := D (F := F)) (𝒱 := 𝒱) (EH := EH) (P := PV m) (A := ∅) facts v₀
    (fun q hq => match q with | 0 => nomatch hq)
    (fun q _ => match q with | 0 => tileObl _ _ _ facts hlt)
    (fun q _ => match q with | 0 => SparseCore.Cfg.VecSplit.of_plain (vecSplit _ _ _))
    m ρ main (GP (F := F)) (FIN m) (u₀ (F := F)) (sep_elim_left.trans (hu₀ m)) (hmain m ρ) (fq m) (hfin m) _ (fun _ h hz => ⟨h, hz⟩)

end Cert.Proof.Sc

end
-- ==== Proof.Pre.lean ====
/-
  The preconditions, read: every index lies in [0, 4096), no entry of the mask is zero, and the entries of the other
  arrays the claim restricts are below infinity in absolute value.
-/
module

public import proofs.«01_k».proof.Proof.Gen.Pre_in_range
public import proofs.«01_k».proof.Proof.Gen.Pre_regular
public import Idealize.ShloMosaic.Lib.ReduceAll
public import Idealize.ShloMosaic.Lib.WordArith
public import Idealize.ShloMosaic.Lib.KernelVsHost

@[expose] public section

noncomputable section

namespace Cert.Proof.Pre

open Idealize.ShloMosaic

instance : Subsingleton (Shape.Idx ⟨0, ![]⟩) := ⟨fun _ _ => funext fun i => i.elim0⟩

/-- An index in range, as a natural number. -/
theorem index_lt (a : BitVec 32) (h0 : IntOp.cmpi .sge a 0#32 = 1#1) (h1 : IntOp.cmpi .slt a 4096#32 = 1#1) : a.toNat < 4096 := by
  have key : ∀ b : Bool, BitVec.ofBool b = 1#1 → b = true := by decide
  have h0 := key _ h0
  have h1 := key _ h1
  simp only [BitVec.sle_eq_decide, BitVec.slt_eq_decide, decide_eq_true_eq,
    BitVec.toInt_eq_toNat_cond, BitVec.toNat_ofNat, Nat.reducePow, Nat.reduceMod] at h0 h1
  omega

section
variable {F : FTy → Type} [FloatOps F]
variable (a0 : FVec F Pre_in_range.S2x4096x128 .f32) (a1 : FVec F Pre_in_range.S2x4096x32x16 .f32) (a2 : IVec Pre_in_range.S2x4096x32 32)
  (a3 : FVec F Pre_in_range.S2x4096 .f32) (a4 : FVec F Pre_in_range.S16x128 .f32) (a5 : FVec F Pre_in_range.S128 .f32)
  (a6 : FVec F Pre_in_range.S128x128 .f32) (a7 : FVec F Pre_in_range.S128 .f32) (a8 : FVec F Pre_in_range.S128x128 .f32)
  (a9 : FVec F Pre_in_range.S128 .f32) (a10 : FVec F Pre_in_range.S128x128 .f32) (a11 : FVec F Pre_in_range.S128 .f32)
  (a12 : FVec F Pre_in_range.S128x128 .f32) (a13 : FVec F Pre_in_range.S128 .f32)

/-- `in_range`: every index is below 4096. -/
theorem in_range_lt (h : Pre_in_range.fn (F := F) a0 a1 a2 a3 a4 a5 a6 a7 a8 a9 a10 a11 a12 a13 = fun _ => 1#1)
    (j : Pre_in_range.S2x4096x32.Idx) : (a2 j).toNat < 4096 := by
  have h := congrFun h (fun i => i.elim0)
  simp only [Pre_in_range.fn, andi] at h
  obtain ⟨h0, h1⟩ := IntOp.andi_eq_one.1 h
  have h0 := Host.reduce_andi_all _ _ _ _ _ h0 j
  have h1 := Host.reduce_andi_all _ _ _ _ _ h1 j
  exact index_lt _ h0 h1
end

/-- What `regular` says of a float array it takes as finite. -/
def Finite {s : Shape} (x : FVec Ideal s .f32) : Prop := ∀ j, x j ≠ ⊥ ∧ x j ≠ ⊤

section
variable (a0 : FVec Ideal Pre_regular.S2x4096x128 .f32) (a1 : FVec Ideal Pre_regular.S2x4096x32x16 .f32) (a2 : IVec Pre_regular.S2x4096x32 32)
  (a3 : FVec Ideal Pre_regular.S2x4096 .f32) (a4 : FVec Ideal Pre_regular.S16x128 .f32) (a5 : FVec Ideal Pre_regular.S128 .f32)
  (a6 : FVec Ideal Pre_regular.S128x128 .f32) (a7 : FVec Ideal Pre_regular.S128 .f32) (a8 : FVec Ideal Pre_regular.S128x128 .f32)
  (a9 : FVec Ideal Pre_regular.S128 .f32) (a10 : FVec Ideal Pre_regular.S128x128 .f32) (a11 : FVec Ideal Pre_regular.S128 .f32)
  (a12 : FVec Ideal Pre_regular.S128x128 .f32) (a13 : FVec Ideal Pre_regular.S128 .f32)

theorem fin_of {s : Shape} (x : FVec Ideal s .f32) (hb : (⟨0, ![]⟩ : Shape).BroadcastsInDim s ![]) {axes : List (Fin s.rank)}
    (hr : s.ReducesTo axes ⟨0, ![]⟩) (hu) (k)
    (h : Host.reduce IntOp.andi (cmpf .olt (Host.absf x) (broadcastInDim s ![] hb (constant (F := Ideal) ⟨0, ![]⟩ .f32 0x7F800000#32)))
      (constantI ⟨0, ![]⟩ 1 1#1) hr hu k = 1#1) : Finite x := by
  intro j
  have h := Host.reduce_andi_all _ _ _ _ _ h j
  have h : (FloatOps.cmpf .olt (FloatOps.hostAbsf (x j)) (FloatOps.ofBits (F := Ideal) .f32 0x7F800000#32)) = 1#1 := h
  have htop : Ideal.ofBits .f32 0x7F800000#32 = ⊤ := by simp [Ideal.ofBits, Ideal.ieee]
  change Ideal.cmp .olt (max (x j : EReal) (-(x j : EReal))) (Ideal.ofBits .f32 0x7F800000#32) = 1#1 at h
  rw [htop] at h
  have h : max (x j : EReal) (-(x j : EReal)) < ⊤ := by
    by_contra hn
    simp [Ideal.cmp, hn] at h
  rw [max_lt_iff] at h
  refine ⟨fun e => ?_, fun e => ?_⟩
  · rw [e] at h; simp at h
  · rw [e] at h; simp at h

theorem regular_facts (h : Pre_regular.fn (F := Ideal) a0 a1 a2 a3 a4 a5 a6 a7 a8 a9 a10 a11 a12 a13 = fun _ => 1#1) :
    (∀ j, (a2 j).toNat < 4096) ∧ (∀ j, a3 j ≠ 0) ∧ Finite a0 ∧ Finite a1 ∧ Finite a4 ∧ Finite a5 ∧ Finite a6 ∧ Finite a7 ∧ Finite a8
      ∧ Finite a9 ∧ Finite a10 := by
  have h := congrFun h (fun i => i.elim0)
  simp only [Pre_regular.fn, Pre_regular.fn_part1, Pre_regular.fn_part2, Pre_regular.fn_part3, andi] at h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h1⟩ := IntOp.andi_eq_one.1 h
  obtain ⟨h, h0⟩ := IntOp.andi_eq_one.1 h
  obtain ⟨h, h3⟩ := IntOp.andi_eq_one.1 h
  obtain ⟨hl, hu⟩ := IntOp.andi_eq_one.1 h
  refine ⟨fun j => ?_, fun j => ?_, fin_of _ _ _ _ _ h0, fin_of _ _ _ _ _ h1, fin_of _ _ _ _ _ h4, fin_of _ _ _ _ _ h5,
    fin_of _ _ _ _ _ h6, fin_of _ _ _ _ _ h7, fin_of _ _ _ _ _ h8, fin_of _ _ _ _ _ h9, fin_of _ _ _ _ _ h10⟩
  · have h0 := Host.reduce_andi_all _ _ _ _ _ hl j
    have h1 := Host.reduce_andi_all _ _ _ _ _ hu j
    exact index_lt _ h0 h1
  · have h := Host.reduce_andi_all _ _ _ _ _ h3 j
    have h : (FloatOps.cmpf .une (a3 j) (FloatOps.ofBits (F := Ideal) .f32 0x00000000#32)) = 1#1 := h
    have hz : Ideal.ofBits .f32 0x00000000#32 = 0 := by simp [Ideal.ofBits, Ideal.ieee]
    change Ideal.cmp .une (a3 j : EReal) (Ideal.ofBits .f32 0x00000000#32) = 1#1 at h
    rw [hz] at h
    intro e
    simp [Ideal.cmp, e] at h
end

end Cert.Proof.Pre

end
-- ==== Proof.Frames.lean ====
/-
  The frames: each program, started in range, ends with its arguments as they were and every semaphore at zero.
-/
module

public import proofs.«01_k».proof.Defs
public import proofs.«01_k».proof.Proof.SameText
public import proofs.«01_k».proof.Proof.Gen.ReferenceIdeal
public import proofs.«01_k».proof.Proof.Gen.ReferenceIdeal.Run
public import proofs.«01_k».proof.Proof.Launch
public import proofs.«01_k».proof.Proof.Reads
public import proofs.«01_k».proof.Proof.Pre

@[expose] public section

noncomputable section

namespace Cert.Proof

open Idealize.ShloMosaic Idealize.SL.Sem
open Cert.KernelIdeal Cert.KernelIdeal.Gen Cert.Proof.Sc

section
variable {F : FTy → Type} [FloatOps F]

/-- A word of the flat index list: the index it comes from, raised by its batch's first row. -/
theorem idxWords_lt (a : S2x4096x32.Idx → Elt F .i32) (h : ∀ j, (a j).toNat < 4096) (x : S262144.Idx) :
    (idxWords a x).toNat < 8192 := by
  have key : ∀ (w : BitVec 32) (b : Nat), w.toNat < 4096 → b < 2 → (w + BitVec.ofNat 32 b * 4096#32).toNat < 8192 := by
    intro w b hw hb
    have hb' : b = 0 ∨ b = 1 := by omega
    rcases hb' with rfl | rfl
    · simp only [BitVec.toNat_add, BitVec.toNat_mul, BitVec.toNat_ofNat]; omega
    · simp only [BitVec.toNat_add, BitVec.toNat_mul, BitVec.toNat_ofNat]; omega
  exact key _ _ (h _) (Fin.isLt _)

variable (m : (ℓ : Loc nD τ sig) → Buf (Elt F) ℓ) (ρ : Dev nD → PrngReg)

/-- The run, read at the arguments, at the result and at the semaphores. -/
theorem run_read [∀ e, Nonempty (Elt F e)] (h : ∀ (c : Dev nD) j, (m ((c.tc : Thread nD τ).loc main_arg2) j).toNat < 4096) :
    θ_run (Cert.KernelIdeal.defs (F := F)) (Cert.KernelIdeal.threads (F := F)) ⟨m, fun _ => 0, ρ⟩ (fun r =>
      (∀ c : Dev nD, r.2.mem ((c.tc : Thread nD τ).loc main_v28) = V4 m c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) := by
  refine (θ_run Cert.KernelIdeal.defs _ _).mono (fun r hr => ⟨fun c => ?_, hr.2⟩) (run_main m ρ fun d x => ?_)
  · have arg : ∀ r' : Ref sig .tc, r' ∈ [main_arg0, main_arg1, main_arg2, main_arg3, main_arg4, main_arg5, main_arg6,
        main_arg7, main_arg8, main_arg9, main_arg10, main_arg11, main_arg12, main_arg13] → Proc.devRef .tc r' ∈ Pipeline.ucRefs τ sig →
        r.2.mem ((c.tc : Thread nD τ).loc r') = m ((c.tc : Thread nD τ).loc r') := fun r' h' hu =>
      (hr.1 c _ hu).trans (V4_arg m c r' h')
    refine ⟨hr.1 c (Proc.devRef .tc main_v28) (by decide), ?_⟩
    refine ⟨arg _ (by simp) (by decide), arg _ (by simp) (by decide), arg _ (by simp) (by decide), arg _ (by simp) (by decide), arg _ (by simp) (by decide), arg _ (by simp) (by decide), arg _ (by simp) (by decide), arg _ (by simp) (by decide), arg _ (by simp) (by decide), arg _ (by simp) (by decide), arg _ (by simp) (by decide), arg _ (by simp) (by decide), arg _ (by simp) (by decide), arg _ (by simp) (by decide)⟩
  · have e : V1 m d rI = idxWords (m (d, Proc.devRef .tc main_arg2)) := V1_v7 m d
    rw [e]
    exact idxWords_lt _ (h d) x
end

/-- A run of the idealization is a run of a program with the same procedures and threads. -/
theorem run_of_eq {D T} (hD : D = Cert.KernelIdeal.defs (F := Bits)) (hT : T = Cert.KernelIdeal.threads (F := Bits)) {σ} {Q}
    (h : θ_run (Cert.KernelIdeal.defs (F := Bits)) (Cert.KernelIdeal.threads (F := Bits)) σ Q) : θ_run D T σ Q := by
  subst hD; subst hT; exact h

/-- The program as it is. -/
theorem frame_kernel : Cert.quiescent_Kernel (hKernel := Cert.Kernel.Gen.facts) (hPre_in_range := Cert.Pre_in_range.Gen.facts) := by
  intro m ρ hm
  refine run_of_eq Same.defs_eq Same.threads_eq ?_
  exact (θ_run Cert.KernelIdeal.defs _ _).mono (fun _ h => ⟨fun c => (h.1 c).2, h.2⟩)
    (run_read (F := Bits) m ρ fun c j => Pre.in_range_lt _ _ _ _ _ _ _ _ _ _ _ _ _ _ (hm c) j)

/-- The same over the reals, -/
theorem frame_ideal : Cert.quiescent_KernelIdeal (hKernelIdeal := Cert.KernelIdeal.Gen.facts) (hPre_in_range := Cert.Pre_in_range.Gen.facts) := fun m ρ hm =>
  (θ_run Cert.KernelIdeal.defs _ _).mono (fun _ h => ⟨fun c => (h.1 c).2, h.2⟩)
    (run_read (F := Ideal) m ρ fun c j => Pre.in_range_lt _ _ _ _ _ _ _ _ _ _ _ _ _ _ (hm c) j)

/-- and from arguments as the value claim takes them. -/
theorem frame_ideal_regular : Cert.quiescent_KernelIdeal_pre_regular (hKernelIdeal := Cert.KernelIdeal.Gen.facts) (hPre_regular := Cert.Pre_regular.Gen.facts) := fun m ρ hm =>
  (θ_run Cert.KernelIdeal.defs _ _).mono (fun _ h => ⟨fun c => (h.1 c).2, h.2⟩)
    (run_read (F := Ideal) m ρ fun c j => (Pre.regular_facts _ _ _ _ _ _ _ _ _ _ _ _ _ _ (hm c)).1 j)

/-- The reference. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_reference_regular : Cert.quiescent_ReferenceIdeal_pre_regular (hReferenceIdeal := Cert.ReferenceIdeal.Gen.facts)
    (hPre_regular := Cert.Pre_regular.Gen.facts) := fun m ρ _ => frame_reference m ρ trivial

end Cert.Proof

end
-- ==== Proof.Value.lean ====
/-
  The value claim: over the extended reals the program leaves the reference's result.
-/
module

public import proofs.«01_k».proof.Proof.KerResult
public import proofs.«01_k».proof.Proof.Frames

@[expose] public section

noncomputable section

namespace Cert.Proof

open Idealize.ShloMosaic Idealize.SL.Sem
open Cert.KernelIdeal Cert.KernelIdeal.Gen Cert.Proof.Sc

/-- A finite array is an array of reals. -/
theorem real_of_finite {ι : Type} (a : ι → EReal) (h : ∀ j, a j ≠ ⊥ ∧ a j ≠ ⊤) : ∃ r : ι → ℝ, ∀ j, a j = (r j : EReal) :=
  ⟨fun j => (a j).toReal, fun j => (EReal.coe_toReal (h j).2 (h j).1).symm⟩

/-- The score's factor is a real. -/
theorem scale_real : ∃ S : ℝ, scale = (S : EReal) := by
  refine ⟨scale.toReal, (EReal.coe_toReal ?_ ?_).symm⟩ <;> simp [scale, Ideal.ofBits, Ideal.ieee]
  · exact fun h => EReal.coe_ne_top (11863283 * (2 ^ 26)⁻¹) ((EReal.coe_mul _ _).trans h)
  · exact fun h => EReal.coe_ne_bot (11863283 * (2 ^ 26)⁻¹) ((EReal.coe_mul _ _).trans h)

/-- The program's result is the reference's, of the same arguments. -/
theorem result_eq (m : (ℓ : Loc nD τ sig) → Buf (Elt Ideal) ℓ) (d : Dev nD)
    (h2 : ∀ j, (arg m d main_arg2 j).toNat < 4096) (h3 : ∀ j, arg m d main_arg3 j ≠ (0 : EReal))
    (f0 : Pre.Finite (arg m d main_arg0)) (f1 : Pre.Finite (arg m d main_arg1)) (f4 : Pre.Finite (arg m d main_arg4))
    (f5 : Pre.Finite (arg m d main_arg5)) (f6 : Pre.Finite (arg m d main_arg6)) (f7 : Pre.Finite (arg m d main_arg7))
    (f8 : Pre.Finite (arg m d main_arg8)) (f9 : Pre.Finite (arg m d main_arg9)) (f10 : Pre.Finite (arg m d main_arg10)) :
    V4 m d (Proc.devRef .tc main_v28)
      = Ref.out (F := Ideal) (arg m d main_arg0) (arg m d main_arg1) (arg m d main_arg2) (arg m d main_arg3) (arg m d main_arg4)
          (arg m d main_arg5) (arg m d main_arg6) (arg m d main_arg7) (arg m d main_arg8) (arg m d main_arg9) (arg m d main_arg10)
          (arg m d main_arg11) (arg m d main_arg12) (arg m d main_arg13) := by
  obtain ⟨S, hS⟩ := scale_real
  obtain ⟨r0, e0⟩ := real_of_finite _ f0
  obtain ⟨r1, e1⟩ := real_of_finite _ f1
  obtain ⟨r4, e4⟩ := real_of_finite _ f4
  obtain ⟨r5, e5⟩ := real_of_finite _ f5
  obtain ⟨r6, e6⟩ := real_of_finite _ f6
  obtain ⟨r7, e7⟩ := real_of_finite _ f7
  obtain ⟨r8, e8⟩ := real_of_finite _ f8
  obtain ⟨r9, e9⟩ := real_of_finite _ f9
  obtain ⟨r10, e10⟩ := real_of_finite _ f10
  funext j
  obtain ⟨b, l, c, rfl⟩ : ∃ (b : Fin 2) (l : Fin 4096) (c : Fin 128), j = ix3 b l c :=
    ⟨j 0, j 1, j 2, funext fun a => by fin_cases a <;> rfl⟩
  refine (kernel_apply m d h2 b l c).trans (Eq.trans ?_ (Ref.out_apply _ _ _ _ _ _ _ _ _ _ _ _ _ _ h2 h3 b l c).symm)
  refine congrArg (· + _) (Finset.sum_congr rfl fun x _ => congrArg (· * _) ?_)
  show Softmax.kerO scale _ _ _ _ _ _ _ _ _ _ _ x = Softmax.refO scale _ _ _ _ _ _ _ _ _ _ _ x
  simp only [hS, e0, e1, e4, e5, e6, e7, e8, e9, e10]
  exact Softmax.kerO_eq S _ _ _ _ _ _ _ _ _ _ _ x

/-- The value claim. -/
theorem algebraic : Cert.algebraic_KernelIdeal_ReferenceIdeal_pre_regular (hKernelIdeal := Cert.KernelIdeal.Gen.facts)
    (hReferenceIdeal := Cert.ReferenceIdeal.Gen.facts) (hPre_regular := Cert.Pre_regular.Gen.facts) := by
  intro m g m' g' hm hargs
  refine ⟨fun c => V4 m c (Proc.devRef .tc main_v28), ?_, ?_⟩
  · exact (θ_run Cert.KernelIdeal.defs _ _).mono (fun _ h => h.1)
      (run_read (F := Ideal) m g fun c j => (Pre.regular_facts _ _ _ _ _ _ _ _ _ _ _ _ _ _ (hm c)).1 j)
  · refine (θ_run Cert.ReferenceIdeal.defs _ _).mono (fun r h c => ⟨(h c).1.trans ?_, (h c).2⟩)
      (Cert.ReferenceIdeal.Value.run (F := Ideal) m' g')
    obtain ⟨a0, a1, a2, a3, a4, a5, a6, a7, a8, a9, a10, a11, a12, a13⟩ := hargs c
    obtain ⟨h2, h3, f0, f1, f4, f5, f6, f7, f8, f9, f10⟩ := Pre.regular_facts _ _ _ _ _ _ _ _ _ _ _ _ _ _ (hm c)
    refine (Ref.res_eq m' c).trans ?_
    rw [a0, a1, a2, a3, a4, a5, a6, a7, a8, a9, a10, a11, a12, a13]
    exact (result_eq m c h2 h3 f0 f1 f4 f5 f6 f7 f8 f9 f10).symm

end Cert.Proof

end
-- ==== Proof.lean ====
/-
  The claim, put together: the program and its idealization run to their end and leave their arguments as they were, so does
  the reference, and over the extended reals the program leaves the reference's result.
-/
module

public import proofs.«01_k».proof.Defs
public import proofs.«01_k».proof.Proof.Value

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_in_range.Gen.facts,
    Cert.Pre_regular.Gen.facts, frame_kernel, frame_ideal, frame_ideal_regular, frame_reference, frame_reference_regular, trivial,
    algebraic⟩

end Cert.Proof

end
